-- ==== Defs.lean ====
def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_RefFwdIdeal (m : (ℓ : Loc Cert.RefFwdIdeal.nD Cert.RefFwdIdeal.τ Cert.RefFwdIdeal.sig) → Buf (Elt Ideal) ℓ) : Prop :=
  True

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8))
      ∧ r.2.sem = fun _ => 0)

def quiescent_RefFwdIdeal [hRefFwdIdeal : Cert.RefFwdIdeal.Facts] : Prop :=
  ∀ (m : (ℓ : Loc Cert.RefFwdIdeal.nD Cert.RefFwdIdeal.τ Cert.RefFwdIdeal.sig) → Buf (Elt Ideal) ℓ) (g : Dev Cert.RefFwdIdeal.nD → PrngReg), Pre_RefFwdIdeal m →
    θ_run (Cert.RefFwdIdeal.defs (F := Ideal)) (onTc (τ := Cert.RefFwdIdeal.τ) (Cert.RefFwdIdeal.main (F := Ideal))) ⟨m, fun _ => 0, g⟩ (fun r => (∀ c : Dev Cert.RefFwdIdeal.nD,
      r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1)
      ∧ r.2.mem ((c.tc : Thread Cert.RefFwdIdeal.nD Cert.RefFwdIdeal.τ).loc Cert.RefFwdIdeal.main_arg2) = m ((c.tc : Thread Cert.RefFwdIdeal.nD Cert.RefFwdIdeal.τ).loc Cert.RefFwdIdeal.main_arg2)
      ∧ r.2.mem ((c.tc : Thread Cert.RefFwdIdeal.nD Cert.RefFwdIdeal.τ).loc Cert.RefFwdIdeal.main_arg3) = m ((c.tc : Thread Cert.RefFwdIdeal.nD Cert.RefFwdIdeal.τ).loc Cert.RefFwdIdeal.main_arg3)
      ∧ r.2.mem ((c.tc : Thread Cert.RefFwdIdeal.nD Cert.RefFwdIdeal.τ).loc Cert.RefFwdIdeal.main_arg4) = m ((c.tc : Thread Cert.RefFwdIdeal.nD Cert.RefFwdIdeal.τ).loc Cert.RefFwdIdeal.main_arg4)
      ∧ r.2.mem ((c.tc : Thread Cert.RefFwdIdeal.nD Cert.RefFwdIdeal.τ).loc Cert.RefFwdIdeal.main_arg5) = m ((c.tc : Thread Cert.RefFwdIdeal.nD Cert.RefFwdIdeal.τ).loc Cert.RefFwdIdeal.main_arg5)
      ∧ r.2.mem ((c.tc : Thread Cert.RefFwdIdeal.nD Cert.RefFwdIdeal.τ).loc Cert.RefFwdIdeal.main_arg6) = m ((c.tc : Thread Cert.RefFwdIdeal.nD Cert.RefFwdIdeal.τ).loc Cert.RefFwdIdeal.main_arg6)
      ∧ r.2.mem ((c.tc : Thread Cert.RefFwdIdeal.nD Cert.RefFwdIdeal.τ).loc Cert.RefFwdIdeal.main_arg7) = m ((c.tc : Thread Cert.RefFwdIdeal.nD Cert.RefFwdIdeal.τ).loc Cert.RefFwdIdeal.main_arg7)
      ∧ r.2.mem ((c.tc : Thread Cert.RefFwdIdeal.nD Cert.RefFwdIdeal.τ).loc Cert.RefFwdIdeal.main_arg8) = m ((c.tc : Thread Cert.RefFwdIdeal.nD Cert.RefFwdIdeal.τ).loc Cert.RefFwdIdeal.main_arg8))
      ∧ r.2.sem = fun _ => 0)

def preserves_Fwd_FwdIdeal : Prop :=
  True

def algebraic_FwdIdeal_RefFwdIdeal [hFwdIdeal : Cert.FwdIdeal.Facts] [hRefFwdIdeal : Cert.RefFwdIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.RefFwdIdeal.nD Cert.RefFwdIdeal.τ Cert.RefFwdIdeal.sig) → Buf (Elt Ideal) ℓ) (g' : Dev Cert.RefFwdIdeal.nD → PrngReg), Pre_FwdIdeal m →
    (∀ c : Dev Cert.FwdIdeal.nD,
      m' ((c.tc : Thread Cert.RefFwdIdeal.nD Cert.RefFwdIdeal.τ).loc Cert.RefFwdIdeal.main_arg0) = m ((c.tc : Thread Cert.FwdIdeal.nD Cert.FwdIdeal.τ).loc Cert.FwdIdeal.main_arg0)
      ∧ m' ((c.tc : Thread Cert.RefFwdIdeal.nD Cert.RefFwdIdeal.τ).loc Cert.RefFwdIdeal.main_arg1) = m ((c.tc : Thread Cert.FwdIdeal.nD Cert.FwdIdeal.τ).loc Cert.FwdIdeal.main_arg1)
      ∧ m' ((c.tc : Thread Cert.RefFwdIdeal.nD Cert.RefFwdIdeal.τ).loc Cert.RefFwdIdeal.main_arg2) = m ((c.tc : Thread Cert.FwdIdeal.nD Cert.FwdIdeal.τ).loc Cert.FwdIdeal.main_arg2)
      ∧ m' ((c.tc : Thread Cert.RefFwdIdeal.nD Cert.RefFwdIdeal.τ).loc Cert.RefFwdIdeal.main_arg3) = m ((c.tc : Thread Cert.FwdIdeal.nD Cert.FwdIdeal.τ).loc Cert.FwdIdeal.main_arg3)
      ∧ m' ((c.tc : Thread Cert.RefFwdIdeal.nD Cert.RefFwdIdeal.τ).loc Cert.RefFwdIdeal.main_arg4) = m ((c.tc : Thread Cert.FwdIdeal.nD Cert.FwdIdeal.τ).loc Cert.FwdIdeal.main_arg4)
      ∧ m' ((c.tc : Thread Cert.RefFwdIdeal.nD Cert.RefFwdIdeal.τ).loc Cert.RefFwdIdeal.main_arg5) = m ((c.tc : Thread Cert.FwdIdeal.nD Cert.FwdIdeal.τ).loc Cert.FwdIdeal.main_arg5)
      ∧ m' ((c.tc : Thread Cert.RefFwdIdeal.nD Cert.RefFwdIdeal.τ).loc Cert.RefFwdIdeal.main_arg6) = m ((c.tc : Thread Cert.FwdIdeal.nD Cert.FwdIdeal.τ).loc Cert.FwdIdeal.main_arg6)
      ∧ m' ((c.tc : Thread Cert.RefFwdIdeal.nD Cert.RefFwdIdeal.τ).loc Cert.RefFwdIdeal.main_arg7) = m ((c.tc : Thread Cert.FwdIdeal.nD Cert.FwdIdeal.τ).loc Cert.FwdIdeal.main_arg7)
      ∧ m' ((c.tc : Thread Cert.RefFwdIdeal.nD Cert.RefFwdIdeal.τ).loc Cert.RefFwdIdeal.main_arg8) = m ((c.tc : Thread Cert.FwdIdeal.nD Cert.FwdIdeal.τ).loc Cert.FwdIdeal.main_arg8)) →
    ∃ (v0 : (c : Dev Cert.FwdIdeal.nD) → Buf (Elt Ideal) ((c.tc : Thread Cert.FwdIdeal.nD Cert.FwdIdeal.τ).loc Cert.FwdIdeal.main_v8_0)) (v1 : (c : Dev Cert.FwdIdeal.nD) → Buf (Elt Ideal) ((c.tc : Thread Cert.FwdIdeal.nD Cert.FwdIdeal.τ).loc Cert.FwdIdeal.main_v8_1)) (v2 : (c : Dev Cert.FwdIdeal.nD) → Buf (Elt Ideal) ((c.tc : Thread Cert.FwdIdeal.nD Cert.FwdIdeal.τ).loc Cert.FwdIdeal.main_v8_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v8_0) = v0 c
          ∧ r.2.mem ((c.tc : Thread Cert.FwdIdeal.nD Cert.FwdIdeal.τ).loc Cert.FwdIdeal.main_v8_1) = v1 c
          ∧ r.2.mem ((c.tc : Thread Cert.FwdIdeal.nD Cert.FwdIdeal.τ).loc Cert.FwdIdeal.main_v8_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8))
      ∧ θ_run (Cert.RefFwdIdeal.defs (F := Ideal)) (onTc (τ := Cert.RefFwdIdeal.τ) (Cert.RefFwdIdeal.main (F := Ideal))) ⟨m', fun _ => 0, g'⟩ (fun r => ∀ c : Dev Cert.RefFwdIdeal.nD,
          r.2.mem ((c.tc : Thread Cert.RefFwdIdeal.nD Cert.RefFwdIdeal.τ).loc Cert.RefFwdIdeal.main_v4_0) = v0 c
          ∧ r.2.mem ((c.tc : Thread Cert.RefFwdIdeal.nD Cert.RefFwdIdeal.τ).loc Cert.RefFwdIdeal.main_v4_1) = v1 c
          ∧ r.2.mem ((c.tc : Thread Cert.RefFwdIdeal.nD Cert.RefFwdIdeal.τ).loc Cert.RefFwdIdeal.main_v4_2) = v2 c
          ∧ r.2.mem ((c.tc : Thread Cert.RefFwdIdeal.nD Cert.RefFwdIdeal.τ).loc Cert.RefFwdIdeal.main_arg0) = m' ((c.tc : Thread Cert.RefFwdIdeal.nD Cert.RefFwdIdeal.τ).loc Cert.RefFwdIdeal.main_arg0)
          ∧ r.2.mem ((c.tc : Thread Cert.RefFwdIdeal.nD Cert.RefFwdIdeal.τ).loc Cert.RefFwdIdeal.main_arg1) = m' ((c.tc : Thread Cert.RefFwdIdeal.nD Cert.RefFwdIdeal.τ).loc Cert.RefFwdIdeal.main_arg1)
          ∧ r.2.mem ((c.tc : Thread Cert.RefFwdIdeal.nD Cert.RefFwdIdeal.τ).loc Cert.RefFwdIdeal.main_arg2) = m' ((c.tc : Thread Cert.RefFwdIdeal.nD Cert.RefFwdIdeal.τ).loc Cert.RefFwdIdeal.main_arg2)
          ∧ r.2.mem ((c.tc : Thread Cert.RefFwdIdeal.nD Cert.RefFwdIdeal.τ).loc Cert.RefFwdIdeal.main_arg3) = m' ((c.tc : Thread Cert.RefFwdIdeal.nD Cert.RefFwdIdeal.τ).loc Cert.RefFwdIdeal.main_arg3)
          ∧ r.2.mem ((c.tc : Thread Cert.RefFwdIdeal.nD Cert.RefFwdIdeal.τ).loc Cert.RefFwdIdeal.main_arg4) = m' ((c.tc : Thread Cert.RefFwdIdeal.nD Cert.RefFwdIdeal.τ).loc Cert.RefFwdIdeal.main_arg4)
          ∧ r.2.mem ((c.tc : Thread Cert.RefFwdIdeal.nD Cert.RefFwdIdeal.τ).loc Cert.RefFwdIdeal.main_arg5) = m' ((c.tc : Thread Cert.RefFwdIdeal.nD Cert.RefFwdIdeal.τ).loc Cert.RefFwdIdeal.main_arg5)
          ∧ r.2.mem ((c.tc : Thread Cert.RefFwdIdeal.nD Cert.RefFwdIdeal.τ).loc Cert.RefFwdIdeal.main_arg6) = m' ((c.tc : Thread Cert.RefFwdIdeal.nD Cert.RefFwdIdeal.τ).loc Cert.RefFwdIdeal.main_arg6)
          ∧ r.2.mem ((c.tc : Thread Cert.RefFwdIdeal.nD Cert.RefFwdIdeal.τ).loc Cert.RefFwdIdeal.main_arg7) = m' ((c.tc : Thread Cert.RefFwdIdeal.nD Cert.RefFwdIdeal.τ).loc Cert.RefFwdIdeal.main_arg7)
          ∧ r.2.mem ((c.tc : Thread Cert.RefFwdIdeal.nD Cert.RefFwdIdeal.τ).loc Cert.RefFwdIdeal.main_arg8) = m' ((c.tc : Thread Cert.RefFwdIdeal.nD Cert.RefFwdIdeal.τ).loc Cert.RefFwdIdeal.main_arg8))

def Claim : Prop :=
  ∃ (hFwd : Cert.Fwd.Facts) (hFwdIdeal : Cert.FwdIdeal.Facts) (hRefFwdIdeal : Cert.RefFwdIdeal.Facts),
    quiescent_Fwd (hFwd := hFwd)
    ∧ quiescent_FwdIdeal (hFwdIdeal := hFwdIdeal)
    ∧ quiescent_RefFwdIdeal (hRefFwdIdeal := hRefFwdIdeal)
    ∧ preserves_Fwd_FwdIdeal
    ∧ algebraic_FwdIdeal_RefFwdIdeal (hFwdIdeal := hFwdIdeal) (hRefFwdIdeal := hRefFwdIdeal)
-- ==== Fwd.lean ====
abbrev S8192x3584 : Shape := ⟨2, ![8192, 3584]⟩
abbrev S8192 : Shape := ⟨1, ![8192]⟩
abbrev S8192x16 : Shape := ⟨2, ![8192, 16]⟩
abbrev S38016x3584 : Shape := ⟨2, ![38016, 3584]⟩
abbrev S38016 : Shape := ⟨1, ![38016]⟩
abbrev S38016x16 : Shape := ⟨2, ![38016, 16]⟩
abbrev S16x38016 : Shape := ⟨2, ![16, 38016]⟩
abbrev S8192x1 : Shape := ⟨2, ![8192, 1]⟩
abbrev S8192x128 : Shape := ⟨2, ![8192, 128]⟩
abbrev S1x38016 : Shape := ⟨2, ![1, 38016]⟩
abbrev S8192x38016 : Shape := ⟨2, ![8192, 38016]⟩
abbrev S1024x3584 : Shape := ⟨2, ![1024, 3584]⟩
abbrev S1024x128 : Shape := ⟨2, ![1024, 128]⟩
abbrev S1024x16 : Shape := ⟨2, ![1024, 16]⟩
abbrev S768x3584 : Shape := ⟨2, ![768, 3584]⟩
abbrev S1x768 : Shape := ⟨2, ![1, 768]⟩
abbrev S16x768 : Shape := ⟨2, ![16, 768]⟩
abbrev S1024x768 : Shape := ⟨2, ![1024, 768]⟩
abbrev S1024x1 : Shape := ⟨2, ![1024, 1]⟩
abbrev S512x3584 : Shape := ⟨2, ![512, 3584]⟩
abbrev S512x768 : Shape := ⟨2, ![512, 768]⟩
abbrev S512x16 : Shape := ⟨2, ![512, 16]⟩
abbrev S512x128 : Shape := ⟨2, ![512, 128]⟩
abbrev S1x128 : Shape := ⟨2, ![1, 128]⟩
abbrev S384x3584 : Shape := ⟨2, ![384, 3584]⟩
abbrev S512x384 : Shape := ⟨2, ![512, 384]⟩
abbrev S16x384 : Shape := ⟨2, ![16, 384]⟩
abbrev S1024 : Shape := ⟨1, ![1024]⟩

abbrev nBuf : Space → Nat
  | .hbm => 20
  | .vmem => 30
  | .smem => 0
  | _ => 0

abbrev bufTy : (tb : Table) → Fin (tcTables nBuf tb) → BufTy
  | .hbm, ⟨0, _⟩ => ⟨S8192x3584, .fp8e4m3⟩
  | .hbm, ⟨1, _⟩ => ⟨S8192, .f32⟩
  | .hbm, ⟨2, _⟩ => ⟨S8192x3584, .fp8e4m3⟩
  | .hbm, ⟨3, _⟩ => ⟨S8192, .f32⟩
  | .hbm, ⟨4, _⟩ => ⟨S8192x16, .bf16⟩
  | .hbm, ⟨5, _⟩ => ⟨S8192, .i32⟩
  | .hbm, ⟨6, _⟩ => ⟨S38016x3584, .fp8e4m3⟩
  | .hbm, ⟨7, _⟩ => ⟨S38016, .f32⟩
  | .hbm, ⟨8, _⟩ => ⟨S38016x16, .bf16⟩
  | .hbm, ⟨9, _⟩ => ⟨S16x38016, .bf16⟩
  | .hbm, ⟨10, _⟩ => ⟨S8192x1, .i32⟩
  | .hbm, ⟨11, _⟩ => ⟨S8192x128, .i32⟩
  | .hbm, ⟨12, _⟩ => ⟨S8192x1, .f32⟩
  | .hbm, ⟨13, _⟩ => ⟨S8192x128, .f32⟩
  | .hbm, ⟨14, _⟩ => ⟨S8192x1, .f32⟩
  | .hbm, ⟨15, _⟩ => ⟨S8192x128, .f32⟩
  | .hbm, ⟨16, _⟩ => ⟨S1x38016, .f32⟩
  | .hbm, ⟨17, _⟩ => ⟨S8192x38016, .f32⟩
  | .hbm, ⟨18, _⟩ => ⟨S8192x128, .f32⟩
  | .hbm, ⟨19, _⟩ => ⟨S8192x1, .f32⟩
  | .local _ .vmem, ⟨0, _⟩ => ⟨S1024x3584, .fp8e4m3⟩
  | .local _ .vmem, ⟨1, _⟩ => ⟨S1024x3584, .fp8e4m3⟩
  | .local _ .vmem, ⟨2, _⟩ => ⟨S1024x128, .f32⟩
  | .local _ .vmem, ⟨3, _⟩ => ⟨S1024x128, .f32⟩
  | .local _ .vmem, ⟨4, _⟩ => ⟨S1024x3584, .fp8e4m3⟩
  | .local _ .vmem, ⟨5, _⟩ => ⟨S1024x3584, .fp8e4m3⟩
  | .local _ .vmem, ⟨6, _⟩ => ⟨S1024x128, .f32⟩
  | .local _ .vmem, ⟨7, _⟩ => ⟨S1024x128, .f32⟩
  | .local _ .vmem, ⟨8, _⟩ => ⟨S1024x16, .bf16⟩
  | .local _ .vmem, ⟨9, _⟩ => ⟨S1024x16, .bf16⟩
  | .local _ .vmem, ⟨10, _⟩ => ⟨S1024x128, .i32⟩
  | .local _ .vmem, ⟨11, _⟩ => ⟨S1024x128, .i32⟩
  | .local _ .vmem, ⟨12, _⟩ => ⟨S768x3584, .fp8e4m3⟩
  | .local _ .vmem, ⟨13, _⟩ => ⟨S768x3584, .fp8e4m3⟩
  | .local _ .vmem, ⟨14, _⟩ => ⟨S1x768, .f32⟩
  | .local _ .vmem, ⟨15, _⟩ => ⟨S1x768, .f32⟩
  | .local _ .vmem, ⟨16, _⟩ => ⟨S16x768, .bf16⟩
  | .local _ .vmem, ⟨17, _⟩ => ⟨S16x768, .bf16⟩
  | .local _ .vmem, ⟨18, _⟩ => ⟨S1024x768, .f32⟩
  | .local _ .vmem, ⟨19, _⟩ => ⟨S1024x768, .f32⟩
  | .local _ .vmem, ⟨20, _⟩ => ⟨S1024x128, .f32⟩
  | .local _ .vmem, ⟨21, _⟩ => ⟨S1024x128, .f32⟩
  | .local _ .vmem, ⟨22, _⟩ => ⟨S1024x1, .f32⟩
  | .local _ .vmem, ⟨23, _⟩ => ⟨S1024x1, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | _, _ => ⟨S8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 50], ![false, false]⟩

def k0_cond2 (i : grid0.Coords) : BitVec 1 :=
  let arg1 : BitVec 32 := BitVec.ofNat 32 (i 1).val
  let c49_i32 : BitVec 32 := 49#32
  let v3 : BitVec 1 := Scalar.cmpi .slt arg1 c49_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c49_i32_2 : BitVec 32 := 49#32
  let v6 : BitVec 1 := Scalar.cmpi .eq arg1 c49_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c49_i32_4 : BitVec 32 := 49#32
  let v9 : BitVec 1 := Scalar.cmpi .eq arg1 c49_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S768x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S16x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== RefFwdIdeal.lean ====
abbrev S8192x3584 : Shape := ⟨2, ![8192, 3584]⟩
abbrev S8192 : Shape := ⟨1, ![8192]⟩
abbrev S8192x16 : Shape := ⟨2, ![8192, 16]⟩
abbrev S38016x3584 : Shape := ⟨2, ![38016, 3584]⟩
abbrev S38016 : Shape := ⟨1, ![38016]⟩
abbrev S38016x16 : Shape := ⟨2, ![38016, 16]⟩
abbrev S8192x1 : Shape := ⟨2, ![8192, 1]⟩
abbrev S1x38016 : Shape := ⟨2, ![1, 38016]⟩
abbrev S8192x38016 : Shape := ⟨2, ![8192, 38016]⟩
abbrev S8192x128 : Shape := ⟨2, ![8192, 128]⟩

abbrev nBuf : Space → Nat
  | .hbm => 16
  | .vmem => 12
  | .smem => 0
  | _ => 0

abbrev bufTy : (tb : Table) → Fin (tcTables nBuf tb) → BufTy
  | .hbm, ⟨0, _⟩ => ⟨S8192x3584, .fp8e4m3⟩
  | .hbm, ⟨1, _⟩ => ⟨S8192, .f32⟩
  | .hbm, ⟨2, _⟩ => ⟨S8192x3584, .fp8e4m3⟩
  | .hbm, ⟨3, _⟩ => ⟨S8192, .f32⟩
  | .hbm, ⟨4, _⟩ => ⟨S8192x16, .bf16⟩
  | .hbm, ⟨5, _⟩ => ⟨S8192, .i32⟩
  | .hbm, ⟨6, _⟩ => ⟨S38016x3584, .fp8e4m3⟩
  | .hbm, ⟨7, _⟩ => ⟨S38016, .f32⟩
  | .hbm, ⟨8, _⟩ => ⟨S38016x16, .bf16⟩
  | .hbm, ⟨9, _⟩ => ⟨S8192x1, .f32⟩
  | .hbm, ⟨10, _⟩ => ⟨S8192x1, .f32⟩
  | .hbm, ⟨11, _⟩ => ⟨S8192x1, .i32⟩
  | .hbm, ⟨12, _⟩ => ⟨S1x38016, .f32⟩
  | .hbm, ⟨13, _⟩ => ⟨S8192x38016, .f32⟩
  | .hbm, ⟨14, _⟩ => ⟨S8192x128, .f32⟩
  | .hbm, ⟨15, _⟩ => ⟨S8192x1, .f32⟩
  | .local _ .vmem, ⟨0, _⟩ => ⟨S8192x3584, .fp8e4m3⟩
  | .local _ .vmem, ⟨1, _⟩ => ⟨S8192x1, .f32⟩
  | .local _ .vmem, ⟨2, _⟩ => ⟨S8192x3584, .fp8e4m3⟩
  | .local _ .vmem, ⟨3, _⟩ => ⟨S8192x1, .f32⟩
  | .local _ .vmem, ⟨4, _⟩ => ⟨S8192x16, .bf16⟩
  | .local _ .vmem, ⟨5, _⟩ => ⟨S8192x1, .i32⟩
  | .local _ .vmem, ⟨6, _⟩ => ⟨S38016x3584, .fp8e4m3⟩
  | .local _ .vmem, ⟨7, _⟩ => ⟨S1x38016, .f32⟩
  | .local _ .vmem, ⟨8, _⟩ => ⟨S38016x16, .bf16⟩
  | .local _ .vmem, ⟨9, _⟩ => ⟨S8192x38016, .f32⟩
  | .local _ .vmem, ⟨10, _⟩ => ⟨S8192x128, .f32⟩
  | .local _ .vmem, ⟨11, _⟩ => ⟨S8192x1, .f32⟩
  | _, _ => ⟨S8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8192x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S38016x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x38016 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S38016x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x38016 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Fwd.Conds.lean ====
/- The four branch conditions of the forward head's body, in the grid point's own terms. -/
module

public import proofs.«01_k».proof.Proof.Gen.Fwd.Frame

@[expose] public section

set_option maxRecDepth 16384

noncomputable section

namespace Cert.Fwd.Head

open Cert.Fwd Cert.Fwd.Gen
open Idealize.ShloMosaic Idealize.ShloMosaic.TcCoe Idealize.ShloMosaic.Tactic
open Idealize.ShloMosaic.Pipeline (Dat Cfg Window BodyObligation cellOf)

/-- The condition of the first branch (the scratch is filled): the tile number is zero. -/
abbrev condInit (i : grid0.Coords) : Prop := (Scalar.cmpi .ne (Scalar.extui (Scalar.cmpi .eq (BitVec.ofNat 32 (i 1).val) 0#32)) 0#32) = 1#1

/-- A point's row block and tile number. -/
theorem coord0 (t : Fin cfg0.N) : (grid0.coords t 0).val = t.val / 50 := by
  have ht : t.val < 400 := Nat.lt_of_lt_of_eq t.isLt N_0
  have e : (grid0.coords t 0).val = t.val / 50 % 8 := Pipeline.Grid.coords_val t 0 (by decide) rfl
  omega
theorem coord1 (t : Fin cfg0.N) : (grid0.coords t 1).val = t.val % 50 := by
  have ht : t.val < 400 := Nat.lt_of_lt_of_eq t.isLt N_0
  have e : (grid0.coords t 1).val = t.val / 1 % 50 := Pipeline.Grid.coords_val t 1 (by decide) rfl
  omega

theorem condInit_iff (t : Fin cfg0.N) : condInit (grid0.coords t) ↔ t.val % 50 = 0 := by
  have ht : t.val < 400 := Nat.lt_of_lt_of_eq t.isLt N_0
  simp only [condInit, coord1]
  word_cmp
theorem cond2_iff (t : Fin cfg0.N) : k0_cond2 (grid0.coords t) = 1#1 ↔ t.val % 50 < 49 := by
  have ht : t.val < 400 := Nat.lt_of_lt_of_eq t.isLt N_0
  simp only [k0_cond2, coord1]
  word_cmp
theorem cond3_iff (t : Fin cfg0.N) : k0_cond3 (grid0.coords t) = 1#1 ↔ t.val % 50 = 49 := by
  have ht : t.val < 400 := Nat.lt_of_lt_of_eq t.isLt N_0
  simp only [k0_cond3, coord1]
  word_cmp
theorem cond4_iff (t : Fin cfg0.N) : k0_cond4 (grid0.coords t) = 1#1 ↔ t.val % 50 = 49 := by
  have ht : t.val < 400 := Nat.lt_of_lt_of_eq t.isLt N_0
  simp only [k0_cond4, coord1]
  word_cmp

end Cert.Fwd.Head

end
-- ==== Proof.Fwd.RunA.lean ====
/- The body at the first tile of a block of rows. -/
module

public import proofs.«01_k».proof.Proof.Gen.Fwd.Skeleton
public import proofs.«01_k».proof.Proof.Gen.Fwd.Points
public import proofs.«01_k».proof.Proof.Gen.Fwd.Frame
public import proofs.«01_k».proof.Proof.Fwd.Conds

@[expose] public section

set_option maxRecDepth 16384

noncomputable section

namespace Cert.Fwd.Head

open Cert.Fwd Cert.Fwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first tile of a block of rows: the scratch is filled, then the tile of 768 columns is taken in; the contents found are the logits buffer's and the six scratch buffers'. -/
def runA (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : condInit i) (hc2 : k0_cond2 i = 1#1) (hc3 : ¬ k0_cond3 i = 1#1) (hc4 : ¬ k0_cond4 i = 1#1)
    (x0 : Vec F S1024x3584 .fp8e4m3) (x1 : Vec F S1024x128 .f32) (x2 : Vec F S1024x3584 .fp8e4m3) (x3 : Vec F S1024x128 .f32) (x4 : Vec F S1024x16 .bf16) (x5 : Vec F S1024x128 .i32) (x6 : Vec F S768x3584 .fp8e4m3) (x7 : Vec F S1x768 .f32) (x8 : Vec F S16x768 .bf16) (x9 : Vec F S1024x768 .f32) (x10 : Vec F S1024x128 .f32) (x11 : Vec F S1024x1 .f32) (x12 : Vec F S1024x128 .f32) (x13 : Vec F S1024x128 .f32) (x14 : Vec F S1024x128 .f32) (x15 : Vec F S1024x128 .f32) (x16 : Vec F S1024x128 .f32) (x17 : Vec F S1024x128 .f32) :
    { p : Vec F S1024x768 .f32 × Vec F S1024x128 .f32 × Vec F S1024x128 .f32 × Vec F S1024x128 .f32 × Vec F S1024x128 .f32 × Vec F S1024x128 .f32 × Vec F S1024x128 .f32 // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (p.1) ∗ owns (c : Thread nD τ) arg12 fullShare x10 ∗ owns (c : Thread nD τ) arg13 fullShare x11 ∗ owns (c : Thread nD τ) arg14 fullShare (p.2.1) ∗ owns (c : Thread nD τ) arg15 fullShare (p.2.2.1) ∗ owns (c : Thread nD τ) arg16 fullShare (p.2.2.2.1) ∗ owns (c : Thread nD τ) arg17 fullShare (p.2.2.2.2.1) ∗ owns (c : Thread nD τ) arg18 fullShare (p.2.2.2.2.2.1) ∗ owns (c : Thread nD τ) arg19 fullShare (p.2.2.2.2.2.2)) -∗ K ⟨⟩))
          ⊢ wp frame (wpE (defs₀ (F := F)) Variants.none c none) E (cc0_head_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨(?p9, ?p12, ?p13, ?p14, ?p15, ?p16, ?p17), ?_⟩
  rotate_left 7
  intro E K
  simp only [cc0_head_forward_eq_skeleton]; unfold cc0_head_forward_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
  sl_exec (disch := first | sl_exact hc1 | sl_exact hc2 | sl_exact hc3 | sl_exact hc4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; rfl
  isplitl [H10]
  · iexists _; isplitr; swap; · iexact H10
    ipureintro; exact harg12.read_unread _
  isplitl [H11]
  · iexists _; isplitr; swap; · iexact H11
    ipureintro; exact harg13.read_unread _
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  iexists _; isplitr; swap; · iexact H17
  ipureintro; rfl

end Cert.Fwd.Head

end
-- ==== Proof.Fwd.RunB.lean ====
/- The body at a later full tile. -/
module

public import proofs.«01_k».proof.Proof.Gen.Fwd.Skeleton
public import proofs.«01_k».proof.Proof.Gen.Fwd.Points
public import proofs.«01_k».proof.Proof.Gen.Fwd.Frame
public import proofs.«01_k».proof.Proof.Fwd.Conds
public import proofs.«01_k».proof.Proof.Fwd.RunA

@[expose] public section

set_option maxRecDepth 16384

noncomputable section

namespace Cert.Fwd.Head

open Cert.Fwd Cert.Fwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later full tile: the tile of 768 columns is taken in; the contents found are the logits buffer's and the six scratch buffers'. -/
def runB (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : ¬ condInit i) (hc2 : k0_cond2 i = 1#1) (hc3 : ¬ k0_cond3 i = 1#1) (hc4 : ¬ k0_cond4 i = 1#1)
    (x0 : Vec F S1024x3584 .fp8e4m3) (x1 : Vec F S1024x128 .f32) (x2 : Vec F S1024x3584 .fp8e4m3) (x3 : Vec F S1024x128 .f32) (x4 : Vec F S1024x16 .bf16) (x5 : Vec F S1024x128 .i32) (x6 : Vec F S768x3584 .fp8e4m3) (x7 : Vec F S1x768 .f32) (x8 : Vec F S16x768 .bf16) (x9 : Vec F S1024x768 .f32) (x10 : Vec F S1024x128 .f32) (x11 : Vec F S1024x1 .f32) (x12 : Vec F S1024x128 .f32) (x13 : Vec F S1024x128 .f32) (x14 : Vec F S1024x128 .f32) (x15 : Vec F S1024x128 .f32) (x16 : Vec F S1024x128 .f32) (x17 : Vec F S1024x128 .f32) :
    { p : Vec F S1024x768 .f32 × Vec F S1024x128 .f32 × Vec F S1024x128 .f32 × Vec F S1024x128 .f32 × Vec F S1024x128 .f32 × Vec F S1024x128 .f32 × Vec F S1024x128 .f32 // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (p.1) ∗ owns (c : Thread nD τ) arg12 fullShare x10 ∗ owns (c : Thread nD τ) arg13 fullShare x11 ∗ owns (c : Thread nD τ) arg14 fullShare (p.2.1) ∗ owns (c : Thread nD τ) arg15 fullShare (p.2.2.1) ∗ owns (c : Thread nD τ) arg16 fullShare (p.2.2.2.1) ∗ owns (c : Thread nD τ) arg17 fullShare (p.2.2.2.2.1) ∗ owns (c : Thread nD τ) arg18 fullShare (p.2.2.2.2.2.1) ∗ owns (c : Thread nD τ) arg19 fullShare (p.2.2.2.2.2.2)) -∗ K ⟨⟩))
          ⊢ wp frame (wpE (defs₀ (F := F)) Variants.none c none) E (cc0_head_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨(?p9, ?p12, ?p13, ?p14, ?p15, ?p16, ?p17), ?_⟩
  rotate_left 7
  intro E K
  simp only [cc0_head_forward_eq_skeleton]; unfold cc0_head_forward_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
  sl_exec (disch := first | sl_exact hc1 | sl_exact hc2 | sl_exact hc3 | sl_exact hc4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; rfl
  isplitl [H10]
  · iexists _; isplitr; swap; · iexact H10
    ipureintro; exact harg12.read_unread _
  isplitl [H11]
  · iexists _; isplitr; swap; · iexact H11
    ipureintro; exact harg13.read_unread _
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  iexists _; isplitr; swap; · iexact H17
  ipureintro; rfl

end Cert.Fwd.Head

end
-- ==== Proof.Fwd.RunC.lean ====
/- The body at the last tile. -/
module

public import proofs.«01_k».proof.Proof.Gen.Fwd.Skeleton
public import proofs.«01_k».proof.Proof.Gen.Fwd.Points
public import proofs.«01_k».proof.Proof.Gen.Fwd.Frame
public import proofs.«01_k».proof.Proof.Fwd.Conds
public import proofs.«01_k».proof.Proof.Fwd.RunB

@[expose] public section

set_option maxRecDepth 16384

noncomputable section

namespace Cert.Fwd.Head

open Cert.Fwd Cert.Fwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last tile: its 384 columns are taken in, then the two row results are written; the contents found are the three outputs' and the six scratch buffers'. -/
def runC (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : ¬ condInit i) (hc2 : ¬ k0_cond2 i = 1#1) (hc3 : k0_cond3 i = 1#1) (hc4 : k0_cond4 i = 1#1)
    (x0 : Vec F S1024x3584 .fp8e4m3) (x1 : Vec F S1024x128 .f32) (x2 : Vec F S1024x3584 .fp8e4m3) (x3 : Vec F S1024x128 .f32) (x4 : Vec F S1024x16 .bf16) (x5 : Vec F S1024x128 .i32) (x6 : Vec F S768x3584 .fp8e4m3) (x7 : Vec F S1x768 .f32) (x8 : Vec F S16x768 .bf16) (x9 : Vec F S1024x768 .f32) (x10 : Vec F S1024x128 .f32) (x11 : Vec F S1024x1 .f32) (x12 : Vec F S1024x128 .f32) (x13 : Vec F S1024x128 .f32) (x14 : Vec F S1024x128 .f32) (x15 : Vec F S1024x128 .f32) (x16 : Vec F S1024x128 .f32) (x17 : Vec F S1024x128 .f32) :
    { p : Vec F S1024x768 .f32 × Vec F S1024x128 .f32 × Vec F S1024x1 .f32 × Vec F S1024x128 .f32 × Vec F S1024x128 .f32 × Vec F S1024x128 .f32 × Vec F S1024x128 .f32 × Vec F S1024x128 .f32 × Vec F S1024x128 .f32 // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (p.1) ∗ owns (c : Thread nD τ) arg12 fullShare (p.2.1) ∗ owns (c : Thread nD τ) arg13 fullShare (p.2.2.1) ∗ owns (c : Thread nD τ) arg14 fullShare (p.2.2.2.1) ∗ owns (c : Thread nD τ) arg15 fullShare (p.2.2.2.2.1) ∗ owns (c : Thread nD τ) arg16 fullShare (p.2.2.2.2.2.1) ∗ owns (c : Thread nD τ) arg17 fullShare (p.2.2.2.2.2.2.1) ∗ owns (c : Thread nD τ) arg18 fullShare (p.2.2.2.2.2.2.2.1) ∗ owns (c : Thread nD τ) arg19 fullShare (p.2.2.2.2.2.2.2.2)) -∗ K ⟨⟩))
          ⊢ wp frame (wpE (defs₀ (F := F)) Variants.none c none) E (cc0_head_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨(?p9, ?p10, ?p11, ?p12, ?p13, ?p14, ?p15, ?p16, ?p17), ?_⟩
  rotate_left 9
  intro E K
  simp only [cc0_head_forward_eq_skeleton]; unfold cc0_head_forward_skel
  simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
  sl_exec (disch := first | sl_exact hc1 | sl_exact hc2 | sl_exact hc3 | sl_exact hc4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  iexists _; isplitr; swap; · iexact H17
  ipureintro; rfl

end Cert.Fwd.Head

end
-- ==== Proof.Fwd.Frame.lean ====
/- The forward head's run from what its body does at a point: the proof data over a relation on the scratch and the results, the body obligation, the launch. -/
module

public import proofs.«01_k».proof.Proof.Gen.Fwd.Launch
public import proofs.«01_k».proof.Proof.Gen.Fwd.Points
public import proofs.«01_k».proof.Proof.Fwd.RunC

@[expose] public section

set_option maxRecDepth 16384

noncomputable section

namespace Cert.Fwd.Head

open Cert.Fwd Cert.Fwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six scratch buffers' contents: running maximum, sum and label logit, of the first and of the second head. -/
abbrev Scr (F : FTy → Type) [FloatOps F] : Type :=
  Vec F S1024x128 .f32 × Vec F S1024x128 .f32 × Vec F S1024x128 .f32 × Vec F S1024x128 .f32 × Vec F S1024x128 .f32 × Vec F S1024x128 .f32

/-- What is said of the scratch before a point, and of what a point leaves in the three results' buffers. -/
structure Rel (F : FTy → Type) [FloatOps F] where
  inv : Nat → Scr F → Prop
  o9 : Fin cfg0.N → Vec F S1024x768 .f32 → Prop
  o10 : Fin cfg0.N → Vec F S1024x128 .f32 → Prop
  o11 : Fin cfg0.N → Vec F S1024x1 .f32 → Prop

/-- The contents of an input's buffer: its block where the block lies in the array, anything elsewhere. -/
def InBlk (c : Dev nD) (w : Fin cfg0.W) (t : Fin cfg0.N) (Y : (cfg0.win w).block.Idx → Elt F (cfg0.win w).elt) : Prop :=
  ∃ d, Y = (cfg0.win w).fill (cfg0.grid.coords t) d (iblk m c w t)

/-- The run at a first tile's point. -/
abbrev atA (c : Dev nD) (t : Fin cfg0.N) (h : t.val % 50 = 0) (Y : (w : Fin cfg0.W) → (cfg0.win w).block.Idx → Elt F (cfg0.win w).elt) (s : Scr F) :=
  runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    ((condInit_iff t).mpr h) ((cond2_iff t).mpr (by omega)) (fun hc => by have := (cond3_iff t).mp hc; omega) (fun hc => by have := (cond4_iff t).mp hc; omega)
    (Y 0) (Y 1) (Y 2) (Y 3) (Y 4) (Y 5) (Y 6) (Y 7) (Y 8) (Y 9) (Y 10) (Y 11) (s.1) (s.2.1) (s.2.2.1) (s.2.2.2.1) (s.2.2.2.2.1) (s.2.2.2.2.2)
/-- The run at a later full tile's point. -/
abbrev atB (c : Dev nD) (t : Fin cfg0.N) (h : t.val % 50 ≠ 0 ∧ t.val % 50 < 49) (Y : (w : Fin cfg0.W) → (cfg0.win w).block.Idx → Elt F (cfg0.win w).elt) (s : Scr F) :=
  runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    (fun hc => h.1 ((condInit_iff t).mp hc)) ((cond2_iff t).mpr h.2) (fun hc => by have := (cond3_iff t).mp hc; omega) (fun hc => by have := (cond4_iff t).mp hc; omega)
    (Y 0) (Y 1) (Y 2) (Y 3) (Y 4) (Y 5) (Y 6) (Y 7) (Y 8) (Y 9) (Y 10) (Y 11) (s.1) (s.2.1) (s.2.2.1) (s.2.2.2.1) (s.2.2.2.2.1) (s.2.2.2.2.2)
/-- The run at a last tile's point. -/
abbrev atC (c : Dev nD) (t : Fin cfg0.N) (h : t.val % 50 = 49) (Y : (w : Fin cfg0.W) → (cfg0.win w).block.Idx → Elt F (cfg0.win w).elt) (s : Scr F) :=
  runC (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    (fun hc => by have := (condInit_iff t).mp hc; omega) (fun hc => by have := (cond2_iff t).mp hc; omega) ((cond3_iff t).mpr h) ((cond4_iff t).mpr h)
    (Y 0) (Y 1) (Y 2) (Y 3) (Y 4) (Y 5) (Y 6) (Y 7) (Y 8) (Y 9) (Y 10) (Y 11) (s.1) (s.2.1) (s.2.2.1) (s.2.2.2.1) (s.2.2.2.2.1) (s.2.2.2.2.2)

/-- The relation is kept by the body at every point. -/
structure Step (R : Rel F) (c : Dev nD) : Prop where
  zero : ∀ s, R.inv 0 s
  first : ∀ (t : Fin cfg0.N) (h : t.val % 50 = 0) Y (hY : ∀ w : Fin cfg0.W, w.val < 9 → InBlk m c w t (Y w)) (s : Scr F), R.inv t.val s →
    R.o9 t (atA c t h Y s).1.1 ∧ R.inv (t.val + 1) (atA c t h Y s).1.2
  later : ∀ (t : Fin cfg0.N) (h : t.val % 50 ≠ 0 ∧ t.val % 50 < 49) Y (hY : ∀ w : Fin cfg0.W, w.val < 9 → InBlk m c w t (Y w)) (s : Scr F), R.inv t.val s →
    R.o9 t (atB c t h Y s).1.1 ∧ R.inv (t.val + 1) (atB c t h Y s).1.2
  last : ∀ (t : Fin cfg0.N) (h : t.val % 50 = 49) Y (hY : ∀ w : Fin cfg0.W, w.val < 9 → InBlk m c w t (Y w)) (s : Scr F), R.inv t.val s →
    R.o9 t (atC c t h Y s).1.1 ∧ R.o10 t (atC c t h Y s).1.2.1 ∧ R.o11 t (atC c t h Y s).1.2.2.1 ∧ R.inv (t.val + 1) (atC c t h Y s).1.2.2.2

/-- The scratch buffers on core `c` at contents `s`. -/
def scrAt (c : Dev nD) (s : Scr F) : sProp 𝕄 :=
  iprop(owns (c : Thread nD τ) (Memref.whole cc0_scratch0) fullShare s.1 ∗ owns (c : Thread nD τ) (Memref.whole cc0_scratch1) fullShare s.2.1 ∗ owns (c : Thread nD τ) (Memref.whole cc0_scratch2) fullShare s.2.2.1 ∗ owns (c : Thread nD τ) (Memref.whole cc0_scratch3) fullShare s.2.2.2.1 ∗ owns (c : Thread nD τ) (Memref.whole cc0_scratch4) fullShare s.2.2.2.2.1 ∗ owns (c : Thread nD τ) (Memref.whole cc0_scratch5) fullShare s.2.2.2.2.2)

/-- The proof data: inputs left as found, results and scratch in the relation. -/
def rdat (R : Rel F) (c : Dev nD) : Pipeline.RDat τ (Elt F) Unit ℕ (UR sig nD τ) ℕ cfg0 c where
  A w := V m c (Pipeline.arrRef spec0 w)
  after w t Y X := match w with
    | ⟨9, _⟩ => R.o9 t X
    | ⟨10, _⟩ => t.val % 50 = 49 → R.o10 t X
    | ⟨11, _⟩ => t.val % 50 = 49 → R.o11 t X
    | ⟨_, _⟩ => X = Y
  Φ t := iprop((∃ s : Scr F, ⌜R.inv t.val s⌝ ∗ scrAt c s) ∗ ∃ r, prngReg c r)
  q _ := fullShare
  owed _ := 0

theorem rdat_A (R : Rel F) (c : Dev nD) (w : Fin cfg0.W) : (rdat m R c).A w = V m c (Pipeline.arrRef spec0 w) := by
  dsimp only [rdat]

/-- An input's buffer holds its block wherever the body is handed it. -/
theorem finds_in (R : Rel F) (c : Dev nD) (t : Fin cfg0.N) (Y : (w : Fin cfg0.W) → (cfg0.win w).block.Idx → Elt F (cfg0.win w).elt)
    (hF : ∀ w, (rdat m R c).Finds w t (Y w)) : ∀ w : Fin cfg0.W, w.val < 9 → InBlk m c w t (Y w) := by
  intro w hw
  obtain ⟨d, hd⟩ := (rdat m R c).finds_in_eq_fetched w
    (match w, hw with | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl)
    (match w, hw with | ⟨0, _⟩, _ => fun _ _ _ => rfl | ⟨1, _⟩, _ => fun _ _ _ => rfl | ⟨2, _⟩, _ => fun _ _ _ => rfl | ⟨3, _⟩, _ => fun _ _ _ => rfl | ⟨4, _⟩, _ => fun _ _ _ => rfl | ⟨5, _⟩, _ => fun _ _ _ => rfl | ⟨6, _⟩, _ => fun _ _ h => congrArg (fun ix : Fin 2 → Nat => fun a => Pipeline.Clip.of (ix a) (S768x3584.size a) (S38016x3584.size a)) h | ⟨7, _⟩, _ => fun _ _ h => congrArg (fun ix : Fin 2 → Nat => fun a => Pipeline.Clip.of (ix a) (S1x768.size a) (S1x38016.size a)) h | ⟨8, _⟩, _ => fun _ _ h => congrArg (fun ix : Fin 2 → Nat => fun a => Pipeline.Clip.of (ix a) (S16x768.size a) (S16x38016.size a)) h)
    (match w, hw with | ⟨0, _⟩, _ => fun _ _ _ h => h | ⟨1, _⟩, _ => fun _ _ _ h => h | ⟨2, _⟩, _ => fun _ _ _ h => h | ⟨3, _⟩, _ => fun _ _ _ h => h | ⟨4, _⟩, _ => fun _ _ _ h => h | ⟨5, _⟩, _ => fun _ _ _ h => h | ⟨6, _⟩, _ => fun _ _ _ h => h | ⟨7, _⟩, _ => fun _ _ _ h => h | ⟨8, _⟩, _ => fun _ _ _ h => h)
    t (Y w) (hF w)
  exact ⟨d, hd⟩

/-- The body at any point, from the inputs' blocks and the scratch in the relation. -/
theorem sound_body (R : Rel F) (c : Dev nD) (hS : Step m R c) (t : Fin cfg0.N)
    (Y : (w : Fin cfg0.W) → (cfg0.win w).block.Idx → Elt F (cfg0.win w).elt) (hF : ∀ w, (rdat m R c).Finds w t (Y w)) :
    iprop((rdat m R c).Φ t.castSucc ∗ (rdat m R c).owesAt () t.castSucc ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11))
      ⊢ wp frame (wpE (defs₀ (F := F)) Variants.none c none) Set.univ (bodyAt0 t) (fun _ =>
        iprop((rdat m R c).Φ t.succ ∗ (rdat m R c).owesAt () t.succ ∗ (∃ X, ⌜(rdat m R c).after 0 t (Y 0) X⌝ ∗ owns (c : Thread nD τ) (win0_0.stage (cfg0.slots t 0)) fullShare X) ∗ (∃ X, ⌜(rdat m R c).after 1 t (Y 1) X⌝ ∗ owns (c : Thread nD τ) (win0_1.stage (cfg0.slots t 1)) fullShare X) ∗ (∃ X, ⌜(rdat m R c).after 2 t (Y 2) X⌝ ∗ owns (c : Thread nD τ) (win0_2.stage (cfg0.slots t 2)) fullShare X) ∗ (∃ X, ⌜(rdat m R c).after 3 t (Y 3) X⌝ ∗ owns (c : Thread nD τ) (win0_3.stage (cfg0.slots t 3)) fullShare X) ∗ (∃ X, ⌜(rdat m R c).after 4 t (Y 4) X⌝ ∗ owns (c : Thread nD τ) (win0_4.stage (cfg0.slots t 4)) fullShare X) ∗ (∃ X, ⌜(rdat m R c).after 5 t (Y 5) X⌝ ∗ owns (c : Thread nD τ) (win0_5.stage (cfg0.slots t 5)) fullShare X) ∗ (∃ X, ⌜(rdat m R c).after 6 t (Y 6) X⌝ ∗ owns (c : Thread nD τ) (win0_6.stage (cfg0.slots t 6)) fullShare X) ∗ (∃ X, ⌜(rdat m R c).after 7 t (Y 7) X⌝ ∗ owns (c : Thread nD τ) (win0_7.stage (cfg0.slots t 7)) fullShare X) ∗ (∃ X, ⌜(rdat m R c).after 8 t (Y 8) X⌝ ∗ owns (c : Thread nD τ) (win0_8.stage (cfg0.slots t 8)) fullShare X) ∗ (∃ X, ⌜(rdat m R c).after 9 t (Y 9) X⌝ ∗ owns (c : Thread nD τ) (win0_9.stage (cfg0.slots t 9)) fullShare X) ∗ (∃ X, ⌜(rdat m R c).after 10 t (Y 10) X⌝ ∗ owns (c : Thread nD τ) (win0_10.stage (cfg0.slots t 10)) fullShare X) ∗ (∃ X, ⌜(rdat m R c).after 11 t (Y 11) X⌝ ∗ owns (c : Thread nD τ) (win0_11.stage (cfg0.slots t 11)) fullShare X))) := by
  have hY := finds_in m R c t Y hF
  rw [show (rdat m R c).owesAt () t.succ = (rdat m R c).owesAt () t.castSucc from rfl,
    show (rdat m R c).Φ t.castSucc = iprop((∃ s : Scr F, ⌜R.inv t.val s⌝ ∗ scrAt c s) ∗ ∃ r, prngReg c r) from rfl,
    show (rdat m R c).Φ t.succ = iprop((∃ s : Scr F, ⌜R.inv (t.val + 1) s⌝ ∗ scrAt c s) ∗ ∃ r, prngReg c r) from rfl]
  have hN : t.val < 400 := lt_of_lt_of_eq t.isLt N_0
  unfold scrAt bodyAt0
  iintro ⟨⟨⟨%s, %hs, S0, S1, S2, S3, S4, S5⟩, Hr⟩, Ho, H0, H1, H2, H3, H4, H5, H6, H7, H8, H9, H10, H11⟩
  by_cases hA : t.val % 50 = 0
  · have hst := hS.first t hA Y hY s hs
    iapply ((atA c t hA Y s).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, H8, H9, H10, H11, S0, S1, S2, S3, S4, S5⟩
    isplitl [S0 S1 S2 S3 S4 S5 Hr]
    · isplitr [Hr]; swap; · iexact Hr
      iexists (atA c t hA Y s).1.2; isplitr; · ipureintro; exact hst.2
      isplitl [S0]; · iexact S0
      isplitl [S1]; · iexact S1
      isplitl [S2]; · iexact S2
      isplitl [S3]; · iexact S3
      isplitl [S4]; · iexact S4
      iexact S5
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact hst.1
    isplitl [H10]
    · iexists _; isplitr; swap; · iexact H10
      ipureintro; intro h49; omega
    iexists _; isplitr; swap; · iexact H11
    ipureintro; intro h49; omega
  · by_cases hC : t.val % 50 = 49
    · have hst := hS.last t hC Y hY s hs
      iapply ((atC c t hC Y s).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, H10, H11, S0, S1, S2, S3, S4, S5⟩
      isplitl [S0 S1 S2 S3 S4 S5 Hr]
      · isplitr [Hr]; swap; · iexact Hr
        iexists (atC c t hC Y s).1.2.2.2; isplitr; · ipureintro; exact hst.2.2.2
        isplitl [S0]; · iexact S0
        isplitl [S1]; · iexact S1
        isplitl [S2]; · iexact S2
        isplitl [S3]; · iexact S3
        isplitl [S4]; · iexact S4
        iexact S5
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; exact hst.1
      isplitl [H10]
      · iexists _; isplitr; swap; · iexact H10
        ipureintro; exact fun _ => hst.2.1
      iexists _; isplitr; swap; · iexact H11
      ipureintro; exact fun _ => hst.2.2.1
    · have hst := hS.later t ⟨hA, by omega⟩ Y hY s hs
      iapply ((atB c t ⟨hA, by omega⟩ Y s).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, H10, H11, S0, S1, S2, S3, S4, S5⟩
      isplitl [S0 S1 S2 S3 S4 S5 Hr]
      · isplitr [Hr]; swap; · iexact Hr
        iexists (atB c t ⟨hA, by omega⟩ Y s).1.2; isplitr; · ipureintro; exact hst.2
        isplitl [S0]; · iexact S0
        isplitl [S1]; · iexact S1
        isplitl [S2]; · iexact S2
        isplitl [S3]; · iexact S3
        isplitl [S4]; · iexact S4
        iexact S5
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; exact hst.1
      isplitl [H10]
      · iexists _; isplitr; swap; · iexact H10
        ipureintro; exact fun h49 => absurd h49 hC
      iexists _; isplitr; swap; · iexact H11
      ipureintro; exact fun h49 => absurd h49 hC

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (R : Rel F) (c : Dev nD) (hS : Step m R c) :
    (rdat m R c).BodyObligation (defs₀ (F := F)) Variants.none () Set.univ := fun t Y hF => by
  rw [bigSep_W0, bigSep_W0, defs₀_row]
  exact triple_restated (sound_body m R c hS t Y hF) rfl .rfl fun _ => .rfl

theorem phi_in (R : Rel F) (c : Dev nD) (hS : Step m R c) : Pipeline.ΦA spec0 c ⊢ (rdat m R c).Φ 0 := by
  rw [show (rdat m R c).Φ 0 = iprop((∃ s : Scr F, ⌜R.inv 0 s⌝ ∗ scrAt c s) ∗ ∃ r, prngReg c r) from rfl]
  unfold Pipeline.ΦA scrAt
  rw [scopedRest0_eq]
  iintro ⟨⟨⟨%f0, S0⟩, ⟨%f1, S1⟩, ⟨%f2, S2⟩, ⟨%f3, S3⟩, ⟨%f4, S4⟩, ⟨%f5, S5⟩⟩, Hr⟩
  isplitr [Hr]
  · iexists ((f0, f1, f2, f3, f4, f5) : Scr F)
    isplitr
    · ipureintro; exact hS.zero _
    simp only [owns_whole]
    isplitl [S0]; · iexact S0
    isplitl [S1]; · iexact S1
    isplitl [S2]; · iexact S2
    isplitl [S3]; · iexact S3
    isplitl [S4]; · iexact S4
    iexact S5
  · iexact Hr

theorem phi_out (R : Rel F) (c : Dev nD) : (rdat m R c).Φ (Fin.last cfg0.N) ⊢ Pipeline.ΦA spec0 c := by
  rw [show (rdat m R c).Φ (Fin.last cfg0.N) = iprop((∃ s : Scr F, ⌜R.inv cfg0.N s⌝ ∗ scrAt c s) ∗ ∃ r, prngReg c r) from rfl]
  unfold Pipeline.ΦA scrAt
  rw [scopedRest0_eq]
  simp only [owns_whole]
  iintro ⟨⟨%s, %hs, S0, S1, S2, S3, S4, S5⟩, Hr⟩
  isplitr [Hr]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  · iexact Hr

set_option backward.isDefEq.respectTransparency.types false in
/-- The launch: every execution ends, each array as the relation allows, every counter at zero. -/
theorem run_main (R : Rel F) (hS : ∀ c, Step m R c) : θ_run defs (onTc (τ := τ) (main (F := F))) (s₀ m ρ)
    (fun r => (Pipeline.RDat.FramePost (cfgs 0) (fun c => rdat m R c) (V m)) r ∧ r.2.sem = fun _ => 0) :=
  Pipeline.RDat.θ_run_frame_track (Q' := _) cfgs (0 : Fin 1) launch0 defs₀ Variants.none (fun c => rdat m R c) m ρ main
    (hbody := fun c => body_obligation m R c (hS c)) (hshare := fun c => (rdat m R c).share_full fun _ => rfl)
    (howed := fun _ _ => rfl) (V := V m) (hmain := hmain m Variants.none) (hA := rdat_A m R)
    (hin := fun c => phi_in m R c (hS c)) (hout := fun c => phi_out m R c)

/-- The arguments end unchanged. -/
theorem args_of (R : Rel F) (r : PUnit × MemSt nD τ sig (Elt F)) (h : Pipeline.RDat.FramePost (cfgs 0) (fun c => rdat m R c) (V m) r) (c : Dev nD) :
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(Pipeline.RDat.FramePost.arr_in h c 0 rfl).trans ((rdat_A m R c 0).trans (V_main_arg0 m c)),
      ((h c).2 main_arg1 (Pipeline.mem_restRefs_of main_arg1 (by decide) (by decide))).trans (V_main_arg1 m c),
      (Pipeline.RDat.FramePost.arr_in h c 2 rfl).trans ((rdat_A m R c 2).trans (V_main_arg2 m c)),
      ((h c).2 main_arg3 (Pipeline.mem_restRefs_of main_arg3 (by decide) (by decide))).trans (V_main_arg3 m c),
      (Pipeline.RDat.FramePost.arr_in h c 4 rfl).trans ((rdat_A m R c 4).trans (V_main_arg4 m c)),
      ((h c).2 main_arg5 (Pipeline.mem_restRefs_of main_arg5 (by decide) (by decide))).trans (V_main_arg5 m c),
      (Pipeline.RDat.FramePost.arr_in h c 6 rfl).trans ((rdat_A m R c 6).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩

/-- The relation that says nothing. -/
def trivRel (F : FTy → Type) [FloatOps F] : Rel F := ⟨fun _ _ => True, fun _ _ => True, fun _ _ => True, fun _ _ => True⟩
theorem trivStep (c : Dev nD) : Step m (trivRel F) c :=
  ⟨fun _ => trivial, fun _ _ _ _ _ _ => ⟨trivial, trivial⟩, fun _ _ _ _ _ _ => ⟨trivial, trivial⟩, fun _ _ _ _ _ _ => ⟨trivial, trivial, trivial, trivial⟩⟩

/-- The frame: every execution ends, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => args_of m (trivRel F) r h.1 c, h.2⟩) (run_main m ρ (trivRel F) fun c => trivStep m c)

end Cert.Fwd.Head

end
-- ==== Proof.FwdIdeal.Conds.lean ====
/- The four branch conditions of the forward head's body, in the grid point's own terms. -/
module

public import proofs.«01_k».proof.Proof.Gen.FwdIdeal.Frame

@[expose] public section

set_option maxRecDepth 16384

noncomputable section

namespace Cert.FwdIdeal.Head

open Cert.FwdIdeal Cert.FwdIdeal.Gen
open Idealize.ShloMosaic Idealize.ShloMosaic.TcCoe Idealize.ShloMosaic.Tactic
open Idealize.ShloMosaic.Pipeline (Dat Cfg Window BodyObligation cellOf)

/-- The condition of the first branch (the scratch is filled): the tile number is zero. -/
abbrev condInit (i : grid0.Coords) : Prop := (Scalar.cmpi .ne (Scalar.extui (Scalar.cmpi .eq (BitVec.ofNat 32 (i 1).val) 0#32)) 0#32) = 1#1

/-- A point's row block and tile number. -/
theorem coord0 (t : Fin cfg0.N) : (grid0.coords t 0).val = t.val / 50 := by
  have ht : t.val < 400 := Nat.lt_of_lt_of_eq t.isLt N_0
  have e : (grid0.coords t 0).val = t.val / 50 % 8 := Pipeline.Grid.coords_val t 0 (by decide) rfl
  omega
theorem coord1 (t : Fin cfg0.N) : (grid0.coords t 1).val = t.val % 50 := by
  have ht : t.val < 400 := Nat.lt_of_lt_of_eq t.isLt N_0
  have e : (grid0.coords t 1).val = t.val / 1 % 50 := Pipeline.Grid.coords_val t 1 (by decide) rfl
  omega

theorem condInit_iff (t : Fin cfg0.N) : condInit (grid0.coords t) ↔ t.val % 50 = 0 := by
  have ht : t.val < 400 := Nat.lt_of_lt_of_eq t.isLt N_0
  simp only [condInit, coord1]
  word_cmp
theorem cond2_iff (t : Fin cfg0.N) : k0_cond2 (grid0.coords t) = 1#1 ↔ t.val % 50 < 49 := by
  have ht : t.val < 400 := Nat.lt_of_lt_of_eq t.isLt N_0
  simp only [k0_cond2, coord1]
  word_cmp
theorem cond3_iff (t : Fin cfg0.N) : k0_cond3 (grid0.coords t) = 1#1 ↔ t.val % 50 = 49 := by
  have ht : t.val < 400 := Nat.lt_of_lt_of_eq t.isLt N_0
  simp only [k0_cond3, coord1]
  word_cmp
theorem cond4_iff (t : Fin cfg0.N) : k0_cond4 (grid0.coords t) = 1#1 ↔ t.val % 50 = 49 := by
  have ht : t.val < 400 := Nat.lt_of_lt_of_eq t.isLt N_0
  simp only [k0_cond4, coord1]
  word_cmp

end Cert.FwdIdeal.Head

end
-- ==== Proof.FwdIdeal.RunA.lean ====
/- The body at the first tile of a block of rows. -/
module

public import proofs.«01_k».proof.Proof.Gen.FwdIdeal.Skeleton
public import proofs.«01_k».proof.Proof.Gen.FwdIdeal.Points
public import proofs.«01_k».proof.Proof.Gen.FwdIdeal.Frame
public import proofs.«01_k».proof.Proof.FwdIdeal.Conds

@[expose] public section

set_option maxRecDepth 16384

noncomputable section

namespace Cert.FwdIdeal.Head

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first tile of a block of rows: the scratch is filled, then the tile of 768 columns is taken in; the contents found are the logits buffer's and the six scratch buffers'. -/
def runA (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : condInit i) (hc2 : k0_cond2 i = 1#1) (hc3 : ¬ k0_cond3 i = 1#1) (hc4 : ¬ k0_cond4 i = 1#1)
    (x0 : Vec F S1024x3584 .fp8e4m3) (x1 : Vec F S1024x128 .f32) (x2 : Vec F S1024x3584 .fp8e4m3) (x3 : Vec F S1024x128 .f32) (x4 : Vec F S1024x16 .bf16) (x5 : Vec F S1024x128 .i32) (x6 : Vec F S768x3584 .fp8e4m3) (x7 : Vec F S1x768 .f32) (x8 : Vec F S16x768 .bf16) (x9 : Vec F S1024x768 .f32) (x10 : Vec F S1024x128 .f32) (x11 : Vec F S1024x1 .f32) (x12 : Vec F S1024x128 .f32) (x13 : Vec F S1024x128 .f32) (x14 : Vec F S1024x128 .f32) (x15 : Vec F S1024x128 .f32) (x16 : Vec F S1024x128 .f32) (x17 : Vec F S1024x128 .f32) :
    { p : Vec F S1024x768 .f32 × Vec F S1024x128 .f32 × Vec F S1024x128 .f32 × Vec F S1024x128 .f32 × Vec F S1024x128 .f32 × Vec F S1024x128 .f32 × Vec F S1024x128 .f32 // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (p.1) ∗ owns (c : Thread nD τ) arg12 fullShare x10 ∗ owns (c : Thread nD τ) arg13 fullShare x11 ∗ owns (c : Thread nD τ) arg14 fullShare (p.2.1) ∗ owns (c : Thread nD τ) arg15 fullShare (p.2.2.1) ∗ owns (c : Thread nD τ) arg16 fullShare (p.2.2.2.1) ∗ owns (c : Thread nD τ) arg17 fullShare (p.2.2.2.2.1) ∗ owns (c : Thread nD τ) arg18 fullShare (p.2.2.2.2.2.1) ∗ owns (c : Thread nD τ) arg19 fullShare (p.2.2.2.2.2.2)) -∗ K ⟨⟩))
          ⊢ wp frame (wpE (defs₀ (F := F)) Variants.none c none) E (cc0_head_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨(?p9, ?p12, ?p13, ?p14, ?p15, ?p16, ?p17), ?_⟩
  rotate_left 7
  intro E K
  simp only [cc0_head_forward_eq_skeleton]; unfold cc0_head_forward_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
  sl_exec (disch := first | sl_exact hc1 | sl_exact hc2 | sl_exact hc3 | sl_exact hc4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; rfl
  isplitl [H10]
  · iexists _; isplitr; swap; · iexact H10
    ipureintro; exact harg12.read_unread _
  isplitl [H11]
  · iexists _; isplitr; swap; · iexact H11
    ipureintro; exact harg13.read_unread _
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  iexists _; isplitr; swap; · iexact H17
  ipureintro; rfl

end Cert.FwdIdeal.Head

end
-- ==== Proof.FwdIdeal.RunB.lean ====
/- The body at a later full tile. -/
module

public import proofs.«01_k».proof.Proof.Gen.FwdIdeal.Skeleton
public import proofs.«01_k».proof.Proof.Gen.FwdIdeal.Points
public import proofs.«01_k».proof.Proof.Gen.FwdIdeal.Frame
public import proofs.«01_k».proof.Proof.FwdIdeal.Conds
public import proofs.«01_k».proof.Proof.FwdIdeal.RunA

@[expose] public section

set_option maxRecDepth 16384

noncomputable section

namespace Cert.FwdIdeal.Head

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later full tile: the tile of 768 columns is taken in; the contents found are the logits buffer's and the six scratch buffers'. -/
def runB (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : ¬ condInit i) (hc2 : k0_cond2 i = 1#1) (hc3 : ¬ k0_cond3 i = 1#1) (hc4 : ¬ k0_cond4 i = 1#1)
    (x0 : Vec F S1024x3584 .fp8e4m3) (x1 : Vec F S1024x128 .f32) (x2 : Vec F S1024x3584 .fp8e4m3) (x3 : Vec F S1024x128 .f32) (x4 : Vec F S1024x16 .bf16) (x5 : Vec F S1024x128 .i32) (x6 : Vec F S768x3584 .fp8e4m3) (x7 : Vec F S1x768 .f32) (x8 : Vec F S16x768 .bf16) (x9 : Vec F S1024x768 .f32) (x10 : Vec F S1024x128 .f32) (x11 : Vec F S1024x1 .f32) (x12 : Vec F S1024x128 .f32) (x13 : Vec F S1024x128 .f32) (x14 : Vec F S1024x128 .f32) (x15 : Vec F S1024x128 .f32) (x16 : Vec F S1024x128 .f32) (x17 : Vec F S1024x128 .f32) :
    { p : Vec F S1024x768 .f32 × Vec F S1024x128 .f32 × Vec F S1024x128 .f32 × Vec F S1024x128 .f32 × Vec F S1024x128 .f32 × Vec F S1024x128 .f32 × Vec F S1024x128 .f32 // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (p.1) ∗ owns (c : Thread nD τ) arg12 fullShare x10 ∗ owns (c : Thread nD τ) arg13 fullShare x11 ∗ owns (c : Thread nD τ) arg14 fullShare (p.2.1) ∗ owns (c : Thread nD τ) arg15 fullShare (p.2.2.1) ∗ owns (c : Thread nD τ) arg16 fullShare (p.2.2.2.1) ∗ owns (c : Thread nD τ) arg17 fullShare (p.2.2.2.2.1) ∗ owns (c : Thread nD τ) arg18 fullShare (p.2.2.2.2.2.1) ∗ owns (c : Thread nD τ) arg19 fullShare (p.2.2.2.2.2.2)) -∗ K ⟨⟩))
          ⊢ wp frame (wpE (defs₀ (F := F)) Variants.none c none) E (cc0_head_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨(?p9, ?p12, ?p13, ?p14, ?p15, ?p16, ?p17), ?_⟩
  rotate_left 7
  intro E K
  simp only [cc0_head_forward_eq_skeleton]; unfold cc0_head_forward_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
  sl_exec (disch := first | sl_exact hc1 | sl_exact hc2 | sl_exact hc3 | sl_exact hc4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; rfl
  isplitl [H10]
  · iexists _; isplitr; swap; · iexact H10
    ipureintro; exact harg12.read_unread _
  isplitl [H11]
  · iexists _; isplitr; swap; · iexact H11
    ipureintro; exact harg13.read_unread _
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  iexists _; isplitr; swap; · iexact H17
  ipureintro; rfl

end Cert.FwdIdeal.Head

end
-- ==== Proof.FwdIdeal.RunC.lean ====
/- The body at the last tile. -/
module

public import proofs.«01_k».proof.Proof.Gen.FwdIdeal.Skeleton
public import proofs.«01_k».proof.Proof.Gen.FwdIdeal.Points
public import proofs.«01_k».proof.Proof.Gen.FwdIdeal.Frame
public import proofs.«01_k».proof.Proof.FwdIdeal.Conds
public import proofs.«01_k».proof.Proof.FwdIdeal.RunB

@[expose] public section

set_option maxRecDepth 16384

noncomputable section

namespace Cert.FwdIdeal.Head

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last tile: its 384 columns are taken in, then the two row results are written; the contents found are the three outputs' and the six scratch buffers'. -/
def runC (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : ¬ condInit i) (hc2 : ¬ k0_cond2 i = 1#1) (hc3 : k0_cond3 i = 1#1) (hc4 : k0_cond4 i = 1#1)
    (x0 : Vec F S1024x3584 .fp8e4m3) (x1 : Vec F S1024x128 .f32) (x2 : Vec F S1024x3584 .fp8e4m3) (x3 : Vec F S1024x128 .f32) (x4 : Vec F S1024x16 .bf16) (x5 : Vec F S1024x128 .i32) (x6 : Vec F S768x3584 .fp8e4m3) (x7 : Vec F S1x768 .f32) (x8 : Vec F S16x768 .bf16) (x9 : Vec F S1024x768 .f32) (x10 : Vec F S1024x128 .f32) (x11 : Vec F S1024x1 .f32) (x12 : Vec F S1024x128 .f32) (x13 : Vec F S1024x128 .f32) (x14 : Vec F S1024x128 .f32) (x15 : Vec F S1024x128 .f32) (x16 : Vec F S1024x128 .f32) (x17 : Vec F S1024x128 .f32) :
    { p : Vec F S1024x768 .f32 × Vec F S1024x128 .f32 × Vec F S1024x1 .f32 × Vec F S1024x128 .f32 × Vec F S1024x128 .f32 × Vec F S1024x128 .f32 × Vec F S1024x128 .f32 × Vec F S1024x128 .f32 × Vec F S1024x128 .f32 // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (p.1) ∗ owns (c : Thread nD τ) arg12 fullShare (p.2.1) ∗ owns (c : Thread nD τ) arg13 fullShare (p.2.2.1) ∗ owns (c : Thread nD τ) arg14 fullShare (p.2.2.2.1) ∗ owns (c : Thread nD τ) arg15 fullShare (p.2.2.2.2.1) ∗ owns (c : Thread nD τ) arg16 fullShare (p.2.2.2.2.2.1) ∗ owns (c : Thread nD τ) arg17 fullShare (p.2.2.2.2.2.2.1) ∗ owns (c : Thread nD τ) arg18 fullShare (p.2.2.2.2.2.2.2.1) ∗ owns (c : Thread nD τ) arg19 fullShare (p.2.2.2.2.2.2.2.2)) -∗ K ⟨⟩))
          ⊢ wp frame (wpE (defs₀ (F := F)) Variants.none c none) E (cc0_head_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨(?p9, ?p10, ?p11, ?p12, ?p13, ?p14, ?p15, ?p16, ?p17), ?_⟩
  rotate_left 9
  intro E K
  simp only [cc0_head_forward_eq_skeleton]; unfold cc0_head_forward_skel
  simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
  sl_exec (disch := first | sl_exact hc1 | sl_exact hc2 | sl_exact hc3 | sl_exact hc4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  iexists _; isplitr; swap; · iexact H17
  ipureintro; rfl

end Cert.FwdIdeal.Head

end
-- ==== Proof.FwdIdeal.Frame.lean ====
/- The forward head's run from what its body does at a point: the proof data over a relation on the scratch and the results, the body obligation, the launch. -/
module

public import proofs.«01_k».proof.Proof.Gen.FwdIdeal.Launch
public import proofs.«01_k».proof.Proof.Gen.FwdIdeal.Points
public import proofs.«01_k».proof.Proof.FwdIdeal.RunC

@[expose] public section

set_option maxRecDepth 16384

noncomputable section

namespace Cert.FwdIdeal.Head

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six scratch buffers' contents: running maximum, sum and label logit, of the first and of the second head. -/
abbrev Scr (F : FTy → Type) [FloatOps F] : Type :=
  Vec F S1024x128 .f32 × Vec F S1024x128 .f32 × Vec F S1024x128 .f32 × Vec F S1024x128 .f32 × Vec F S1024x128 .f32 × Vec F S1024x128 .f32

/-- What is said of the scratch before a point, and of what a point leaves in the three results' buffers. -/
structure Rel (F : FTy → Type) [FloatOps F] where
  inv : Nat → Scr F → Prop
  o9 : Fin cfg0.N → Vec F S1024x768 .f32 → Prop
  o10 : Fin cfg0.N → Vec F S1024x128 .f32 → Prop
  o11 : Fin cfg0.N → Vec F S1024x1 .f32 → Prop

/-- The contents of an input's buffer: its block where the block lies in the array, anything elsewhere. -/
def InBlk (c : Dev nD) (w : Fin cfg0.W) (t : Fin cfg0.N) (Y : (cfg0.win w).block.Idx → Elt F (cfg0.win w).elt) : Prop :=
  ∃ d, Y = (cfg0.win w).fill (cfg0.grid.coords t) d (iblk m c w t)

/-- The run at a first tile's point. -/
abbrev atA (c : Dev nD) (t : Fin cfg0.N) (h : t.val % 50 = 0) (Y : (w : Fin cfg0.W) → (cfg0.win w).block.Idx → Elt F (cfg0.win w).elt) (s : Scr F) :=
  runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    ((condInit_iff t).mpr h) ((cond2_iff t).mpr (by omega)) (fun hc => by have := (cond3_iff t).mp hc; omega) (fun hc => by have := (cond4_iff t).mp hc; omega)
    (Y 0) (Y 1) (Y 2) (Y 3) (Y 4) (Y 5) (Y 6) (Y 7) (Y 8) (Y 9) (Y 10) (Y 11) (s.1) (s.2.1) (s.2.2.1) (s.2.2.2.1) (s.2.2.2.2.1) (s.2.2.2.2.2)
/-- The run at a later full tile's point. -/
abbrev atB (c : Dev nD) (t : Fin cfg0.N) (h : t.val % 50 ≠ 0 ∧ t.val % 50 < 49) (Y : (w : Fin cfg0.W) → (cfg0.win w).block.Idx → Elt F (cfg0.win w).elt) (s : Scr F) :=
  runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    (fun hc => h.1 ((condInit_iff t).mp hc)) ((cond2_iff t).mpr h.2) (fun hc => by have := (cond3_iff t).mp hc; omega) (fun hc => by have := (cond4_iff t).mp hc; omega)
    (Y 0) (Y 1) (Y 2) (Y 3) (Y 4) (Y 5) (Y 6) (Y 7) (Y 8) (Y 9) (Y 10) (Y 11) (s.1) (s.2.1) (s.2.2.1) (s.2.2.2.1) (s.2.2.2.2.1) (s.2.2.2.2.2)
/-- The run at a last tile's point. -/
abbrev atC (c : Dev nD) (t : Fin cfg0.N) (h : t.val % 50 = 49) (Y : (w : Fin cfg0.W) → (cfg0.win w).block.Idx → Elt F (cfg0.win w).elt) (s : Scr F) :=
  runC (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    (fun hc => by have := (condInit_iff t).mp hc; omega) (fun hc => by have := (cond2_iff t).mp hc; omega) ((cond3_iff t).mpr h) ((cond4_iff t).mpr h)
    (Y 0) (Y 1) (Y 2) (Y 3) (Y 4) (Y 5) (Y 6) (Y 7) (Y 8) (Y 9) (Y 10) (Y 11) (s.1) (s.2.1) (s.2.2.1) (s.2.2.2.1) (s.2.2.2.2.1) (s.2.2.2.2.2)

/-- The relation is kept by the body at every point. -/
structure Step (R : Rel F) (c : Dev nD) : Prop where
  zero : ∀ s, R.inv 0 s
  first : ∀ (t : Fin cfg0.N) (h : t.val % 50 = 0) Y (hY : ∀ w : Fin cfg0.W, w.val < 9 → InBlk m c w t (Y w)) (s : Scr F), R.inv t.val s →
    R.o9 t (atA c t h Y s).1.1 ∧ R.inv (t.val + 1) (atA c t h Y s).1.2
  later : ∀ (t : Fin cfg0.N) (h : t.val % 50 ≠ 0 ∧ t.val % 50 < 49) Y (hY : ∀ w : Fin cfg0.W, w.val < 9 → InBlk m c w t (Y w)) (s : Scr F), R.inv t.val s →
    R.o9 t (atB c t h Y s).1.1 ∧ R.inv (t.val + 1) (atB c t h Y s).1.2
  last : ∀ (t : Fin cfg0.N) (h : t.val % 50 = 49) Y (hY : ∀ w : Fin cfg0.W, w.val < 9 → InBlk m c w t (Y w)) (s : Scr F), R.inv t.val s →
    R.o9 t (atC c t h Y s).1.1 ∧ R.o10 t (atC c t h Y s).1.2.1 ∧ R.o11 t (atC c t h Y s).1.2.2.1 ∧ R.inv (t.val + 1) (atC c t h Y s).1.2.2.2

/-- The scratch buffers on core `c` at contents `s`. -/
def scrAt (c : Dev nD) (s : Scr F) : sProp 𝕄 :=
  iprop(owns (c : Thread nD τ) (Memref.whole cc0_scratch0) fullShare s.1 ∗ owns (c : Thread nD τ) (Memref.whole cc0_scratch1) fullShare s.2.1 ∗ owns (c : Thread nD τ) (Memref.whole cc0_scratch2) fullShare s.2.2.1 ∗ owns (c : Thread nD τ) (Memref.whole cc0_scratch3) fullShare s.2.2.2.1 ∗ owns (c : Thread nD τ) (Memref.whole cc0_scratch4) fullShare s.2.2.2.2.1 ∗ owns (c : Thread nD τ) (Memref.whole cc0_scratch5) fullShare s.2.2.2.2.2)

/-- The proof data: inputs left as found, results and scratch in the relation. -/
def rdat (R : Rel F) (c : Dev nD) : Pipeline.RDat τ (Elt F) Unit ℕ (UR sig nD τ) ℕ cfg0 c where
  A w := V m c (Pipeline.arrRef spec0 w)
  after w t Y X := match w with
    | ⟨9, _⟩ => R.o9 t X
    | ⟨10, _⟩ => t.val % 50 = 49 → R.o10 t X
    | ⟨11, _⟩ => t.val % 50 = 49 → R.o11 t X
    | ⟨_, _⟩ => X = Y
  Φ t := iprop((∃ s : Scr F, ⌜R.inv t.val s⌝ ∗ scrAt c s) ∗ ∃ r, prngReg c r)
  q _ := fullShare
  owed _ := 0

theorem rdat_A (R : Rel F) (c : Dev nD) (w : Fin cfg0.W) : (rdat m R c).A w = V m c (Pipeline.arrRef spec0 w) := by
  dsimp only [rdat]

/-- An input's buffer holds its block wherever the body is handed it. -/
theorem finds_in (R : Rel F) (c : Dev nD) (t : Fin cfg0.N) (Y : (w : Fin cfg0.W) → (cfg0.win w).block.Idx → Elt F (cfg0.win w).elt)
    (hF : ∀ w, (rdat m R c).Finds w t (Y w)) : ∀ w : Fin cfg0.W, w.val < 9 → InBlk m c w t (Y w) := by
  intro w hw
  obtain ⟨d, hd⟩ := (rdat m R c).finds_in_eq_fetched w
    (match w, hw with | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl)
    (match w, hw with | ⟨0, _⟩, _ => fun _ _ _ => rfl | ⟨1, _⟩, _ => fun _ _ _ => rfl | ⟨2, _⟩, _ => fun _ _ _ => rfl | ⟨3, _⟩, _ => fun _ _ _ => rfl | ⟨4, _⟩, _ => fun _ _ _ => rfl | ⟨5, _⟩, _ => fun _ _ _ => rfl | ⟨6, _⟩, _ => fun _ _ h => congrArg (fun ix : Fin 2 → Nat => fun a => Pipeline.Clip.of (ix a) (S768x3584.size a) (S38016x3584.size a)) h | ⟨7, _⟩, _ => fun _ _ h => congrArg (fun ix : Fin 2 → Nat => fun a => Pipeline.Clip.of (ix a) (S1x768.size a) (S1x38016.size a)) h | ⟨8, _⟩, _ => fun _ _ h => congrArg (fun ix : Fin 2 → Nat => fun a => Pipeline.Clip.of (ix a) (S16x768.size a) (S16x38016.size a)) h)
    (match w, hw with | ⟨0, _⟩, _ => fun _ _ _ h => h | ⟨1, _⟩, _ => fun _ _ _ h => h | ⟨2, _⟩, _ => fun _ _ _ h => h | ⟨3, _⟩, _ => fun _ _ _ h => h | ⟨4, _⟩, _ => fun _ _ _ h => h | ⟨5, _⟩, _ => fun _ _ _ h => h | ⟨6, _⟩, _ => fun _ _ _ h => h | ⟨7, _⟩, _ => fun _ _ _ h => h | ⟨8, _⟩, _ => fun _ _ _ h => h)
    t (Y w) (hF w)
  exact ⟨d, hd⟩

/-- The body at any point, from the inputs' blocks and the scratch in the relation. -/
theorem sound_body (R : Rel F) (c : Dev nD) (hS : Step m R c) (t : Fin cfg0.N)
    (Y : (w : Fin cfg0.W) → (cfg0.win w).block.Idx → Elt F (cfg0.win w).elt) (hF : ∀ w, (rdat m R c).Finds w t (Y w)) :
    iprop((rdat m R c).Φ t.castSucc ∗ (rdat m R c).owesAt () t.castSucc ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11))
      ⊢ wp frame (wpE (defs₀ (F := F)) Variants.none c none) Set.univ (bodyAt0 t) (fun _ =>
        iprop((rdat m R c).Φ t.succ ∗ (rdat m R c).owesAt () t.succ ∗ (∃ X, ⌜(rdat m R c).after 0 t (Y 0) X⌝ ∗ owns (c : Thread nD τ) (win0_0.stage (cfg0.slots t 0)) fullShare X) ∗ (∃ X, ⌜(rdat m R c).after 1 t (Y 1) X⌝ ∗ owns (c : Thread nD τ) (win0_1.stage (cfg0.slots t 1)) fullShare X) ∗ (∃ X, ⌜(rdat m R c).after 2 t (Y 2) X⌝ ∗ owns (c : Thread nD τ) (win0_2.stage (cfg0.slots t 2)) fullShare X) ∗ (∃ X, ⌜(rdat m R c).after 3 t (Y 3) X⌝ ∗ owns (c : Thread nD τ) (win0_3.stage (cfg0.slots t 3)) fullShare X) ∗ (∃ X, ⌜(rdat m R c).after 4 t (Y 4) X⌝ ∗ owns (c : Thread nD τ) (win0_4.stage (cfg0.slots t 4)) fullShare X) ∗ (∃ X, ⌜(rdat m R c).after 5 t (Y 5) X⌝ ∗ owns (c : Thread nD τ) (win0_5.stage (cfg0.slots t 5)) fullShare X) ∗ (∃ X, ⌜(rdat m R c).after 6 t (Y 6) X⌝ ∗ owns (c : Thread nD τ) (win0_6.stage (cfg0.slots t 6)) fullShare X) ∗ (∃ X, ⌜(rdat m R c).after 7 t (Y 7) X⌝ ∗ owns (c : Thread nD τ) (win0_7.stage (cfg0.slots t 7)) fullShare X) ∗ (∃ X, ⌜(rdat m R c).after 8 t (Y 8) X⌝ ∗ owns (c : Thread nD τ) (win0_8.stage (cfg0.slots t 8)) fullShare X) ∗ (∃ X, ⌜(rdat m R c).after 9 t (Y 9) X⌝ ∗ owns (c : Thread nD τ) (win0_9.stage (cfg0.slots t 9)) fullShare X) ∗ (∃ X, ⌜(rdat m R c).after 10 t (Y 10) X⌝ ∗ owns (c : Thread nD τ) (win0_10.stage (cfg0.slots t 10)) fullShare X) ∗ (∃ X, ⌜(rdat m R c).after 11 t (Y 11) X⌝ ∗ owns (c : Thread nD τ) (win0_11.stage (cfg0.slots t 11)) fullShare X))) := by
  have hY := finds_in m R c t Y hF
  rw [show (rdat m R c).owesAt () t.succ = (rdat m R c).owesAt () t.castSucc from rfl,
    show (rdat m R c).Φ t.castSucc = iprop((∃ s : Scr F, ⌜R.inv t.val s⌝ ∗ scrAt c s) ∗ ∃ r, prngReg c r) from rfl,
    show (rdat m R c).Φ t.succ = iprop((∃ s : Scr F, ⌜R.inv (t.val + 1) s⌝ ∗ scrAt c s) ∗ ∃ r, prngReg c r) from rfl]
  have hN : t.val < 400 := lt_of_lt_of_eq t.isLt N_0
  unfold scrAt bodyAt0
  iintro ⟨⟨⟨%s, %hs, S0, S1, S2, S3, S4, S5⟩, Hr⟩, Ho, H0, H1, H2, H3, H4, H5, H6, H7, H8, H9, H10, H11⟩
  by_cases hA : t.val % 50 = 0
  · have hst := hS.first t hA Y hY s hs
    iapply ((atA c t hA Y s).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, H8, H9, H10, H11, S0, S1, S2, S3, S4, S5⟩
    isplitl [S0 S1 S2 S3 S4 S5 Hr]
    · isplitr [Hr]; swap; · iexact Hr
      iexists (atA c t hA Y s).1.2; isplitr; · ipureintro; exact hst.2
      isplitl [S0]; · iexact S0
      isplitl [S1]; · iexact S1
      isplitl [S2]; · iexact S2
      isplitl [S3]; · iexact S3
      isplitl [S4]; · iexact S4
      iexact S5
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact hst.1
    isplitl [H10]
    · iexists _; isplitr; swap; · iexact H10
      ipureintro; intro h49; omega
    iexists _; isplitr; swap; · iexact H11
    ipureintro; intro h49; omega
  · by_cases hC : t.val % 50 = 49
    · have hst := hS.last t hC Y hY s hs
      iapply ((atC c t hC Y s).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, H10, H11, S0, S1, S2, S3, S4, S5⟩
      isplitl [S0 S1 S2 S3 S4 S5 Hr]
      · isplitr [Hr]; swap; · iexact Hr
        iexists (atC c t hC Y s).1.2.2.2; isplitr; · ipureintro; exact hst.2.2.2
        isplitl [S0]; · iexact S0
        isplitl [S1]; · iexact S1
        isplitl [S2]; · iexact S2
        isplitl [S3]; · iexact S3
        isplitl [S4]; · iexact S4
        iexact S5
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; exact hst.1
      isplitl [H10]
      · iexists _; isplitr; swap; · iexact H10
        ipureintro; exact fun _ => hst.2.1
      iexists _; isplitr; swap; · iexact H11
      ipureintro; exact fun _ => hst.2.2.1
    · have hst := hS.later t ⟨hA, by omega⟩ Y hY s hs
      iapply ((atB c t ⟨hA, by omega⟩ Y s).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, H10, H11, S0, S1, S2, S3, S4, S5⟩
      isplitl [S0 S1 S2 S3 S4 S5 Hr]
      · isplitr [Hr]; swap; · iexact Hr
        iexists (atB c t ⟨hA, by omega⟩ Y s).1.2; isplitr; · ipureintro; exact hst.2
        isplitl [S0]; · iexact S0
        isplitl [S1]; · iexact S1
        isplitl [S2]; · iexact S2
        isplitl [S3]; · iexact S3
        isplitl [S4]; · iexact S4
        iexact S5
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; exact hst.1
      isplitl [H10]
      · iexists _; isplitr; swap; · iexact H10
        ipureintro; exact fun h49 => absurd h49 hC
      iexists _; isplitr; swap; · iexact H11
      ipureintro; exact fun h49 => absurd h49 hC

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (R : Rel F) (c : Dev nD) (hS : Step m R c) :
    (rdat m R c).BodyObligation (defs₀ (F := F)) Variants.none () Set.univ := fun t Y hF => by
  rw [bigSep_W0, bigSep_W0, defs₀_row]
  exact triple_restated (sound_body m R c hS t Y hF) rfl .rfl fun _ => .rfl

theorem phi_in (R : Rel F) (c : Dev nD) (hS : Step m R c) : Pipeline.ΦA spec0 c ⊢ (rdat m R c).Φ 0 := by
  rw [show (rdat m R c).Φ 0 = iprop((∃ s : Scr F, ⌜R.inv 0 s⌝ ∗ scrAt c s) ∗ ∃ r, prngReg c r) from rfl]
  unfold Pipeline.ΦA scrAt
  rw [scopedRest0_eq]
  iintro ⟨⟨⟨%f0, S0⟩, ⟨%f1, S1⟩, ⟨%f2, S2⟩, ⟨%f3, S3⟩, ⟨%f4, S4⟩, ⟨%f5, S5⟩⟩, Hr⟩
  isplitr [Hr]
  · iexists ((f0, f1, f2, f3, f4, f5) : Scr F)
    isplitr
    · ipureintro; exact hS.zero _
    simp only [owns_whole]
    isplitl [S0]; · iexact S0
    isplitl [S1]; · iexact S1
    isplitl [S2]; · iexact S2
    isplitl [S3]; · iexact S3
    isplitl [S4]; · iexact S4
    iexact S5
  · iexact Hr

theorem phi_out (R : Rel F) (c : Dev nD) : (rdat m R c).Φ (Fin.last cfg0.N) ⊢ Pipeline.ΦA spec0 c := by
  rw [show (rdat m R c).Φ (Fin.last cfg0.N) = iprop((∃ s : Scr F, ⌜R.inv cfg0.N s⌝ ∗ scrAt c s) ∗ ∃ r, prngReg c r) from rfl]
  unfold Pipeline.ΦA scrAt
  rw [scopedRest0_eq]
  simp only [owns_whole]
  iintro ⟨⟨%s, %hs, S0, S1, S2, S3, S4, S5⟩, Hr⟩
  isplitr [Hr]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  · iexact Hr

set_option backward.isDefEq.respectTransparency.types false in
/-- The launch: every execution ends, each array as the relation allows, every counter at zero. -/
theorem run_main (R : Rel F) (hS : ∀ c, Step m R c) : θ_run defs (onTc (τ := τ) (main (F := F))) (s₀ m ρ)
    (fun r => (Pipeline.RDat.FramePost (cfgs 0) (fun c => rdat m R c) (V m)) r ∧ r.2.sem = fun _ => 0) :=
  Pipeline.RDat.θ_run_frame_track (Q' := _) cfgs (0 : Fin 1) launch0 defs₀ Variants.none (fun c => rdat m R c) m ρ main
    (hbody := fun c => body_obligation m R c (hS c)) (hshare := fun c => (rdat m R c).share_full fun _ => rfl)
    (howed := fun _ _ => rfl) (V := V m) (hmain := hmain m Variants.none) (hA := rdat_A m R)
    (hin := fun c => phi_in m R c (hS c)) (hout := fun c => phi_out m R c)

/-- The arguments end unchanged. -/
theorem args_of (R : Rel F) (r : PUnit × MemSt nD τ sig (Elt F)) (h : Pipeline.RDat.FramePost (cfgs 0) (fun c => rdat m R c) (V m) r) (c : Dev nD) :
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(Pipeline.RDat.FramePost.arr_in h c 0 rfl).trans ((rdat_A m R c 0).trans (V_main_arg0 m c)),
      ((h c).2 main_arg1 (Pipeline.mem_restRefs_of main_arg1 (by decide) (by decide))).trans (V_main_arg1 m c),
      (Pipeline.RDat.FramePost.arr_in h c 2 rfl).trans ((rdat_A m R c 2).trans (V_main_arg2 m c)),
      ((h c).2 main_arg3 (Pipeline.mem_restRefs_of main_arg3 (by decide) (by decide))).trans (V_main_arg3 m c),
      (Pipeline.RDat.FramePost.arr_in h c 4 rfl).trans ((rdat_A m R c 4).trans (V_main_arg4 m c)),
      ((h c).2 main_arg5 (Pipeline.mem_restRefs_of main_arg5 (by decide) (by decide))).trans (V_main_arg5 m c),
      (Pipeline.RDat.FramePost.arr_in h c 6 rfl).trans ((rdat_A m R c 6).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩

/-- The relation that says nothing. -/
def trivRel (F : FTy → Type) [FloatOps F] : Rel F := ⟨fun _ _ => True, fun _ _ => True, fun _ _ => True, fun _ _ => True⟩
theorem trivStep (c : Dev nD) : Step m (trivRel F) c :=
  ⟨fun _ => trivial, fun _ _ _ _ _ _ => ⟨trivial, trivial⟩, fun _ _ _ _ _ _ => ⟨trivial, trivial⟩, fun _ _ _ _ _ _ => ⟨trivial, trivial, trivial, trivial⟩⟩

/-- The frame: every execution ends, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => args_of m (trivRel F) r h.1 c, h.2⟩) (run_main m ρ (trivRel F) fun c => trivStep m c)

end Cert.FwdIdeal.Head

end
-- ==== Proof.FwdIdeal.Blocks.lean ====
/- The inputs' blocks at a point, in the terms of the arguments. -/
module

public import proofs.«01_k».proof.Proof.Gen.FwdIdeal.Frame
public import proofs.«01_k».proof.Proof.FwdIdeal.Conds
public import Idealize.ShloMosaic.Lib.Pointwise
public import Idealize.ShloMosaic.Lib.Pipeline.ValueKit

@[expose] public section

set_option maxRecDepth 16384

noncomputable section

namespace Cert.FwdIdeal.Head

open Cert.FwdIdeal Cert.FwdIdeal.Gen
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ) (c : Dev nD)

/-- A point's row of the whole array, of row `R` of the block. -/
abbrev rowAt (t : Fin cfg0.N) (R : Fin 1024) : Fin 8192 :=
  ⟨1024 * (t.val / 50) + R.val, by have := lt_of_lt_of_eq t.isLt N_0; omega⟩

/-! ## Block indices and cut sizes -/

theorem tr0 (t : Fin cfg0.N) : (BitVec.ofNat 32 (grid0.coords t 0).val).toNat = t.val / 50 := by
  have ht := lt_of_lt_of_eq t.isLt N_0
  rw [coord0, BitVec.toNat_ofNat, Nat.mod_eq_of_lt (by omega)]
theorem tr1 (t : Fin cfg0.N) : (BitVec.ofNat 32 (grid0.coords t 1).val).toNat = t.val % 50 := by
  rw [coord1, BitVec.toNat_ofNat, Nat.mod_eq_of_lt (by omega)]

/-- How many of a tile's 768 columns lie in the vocabulary. -/
theorem ext_of (t : Fin cfg0.N) : (Pipeline.Clip.of (BitVec.ofNat 32 (grid0.coords t 1).val).toNat 768 38016).extent 768 = min 768 (38016 - 768 * (t.val % 50)) := by
  rw [tr1]
  unfold Pipeline.Clip.of
  split
  · show 768 = _; omega
  · show 38016 - _ = _; omega

/-! ## The host operations before the call -/

theorem host1 (T : Fin 8192) (l : Fin 128) : V m c main_v4 (ix2 T l) = m ((c.tc : Thread nD τ).loc main_arg1) (ix1 T) := by
  entry_read
  pointwise
theorem host3 (T : Fin 8192) (l : Fin 128) : V m c main_v6 (ix2 T l) = m ((c.tc : Thread nD τ).loc main_arg3) (ix1 T) := by
  entry_read
  pointwise
theorem host5 (T : Fin 8192) (l : Fin 128) : V m c main_v2 (ix2 T l) = m ((c.tc : Thread nD τ).loc main_arg5) (ix1 T) := by
  entry_read
  pointwise
theorem host7 (v : Fin 38016) : V m c main_v7 (ix2 (0 : Fin 1) v) = m ((c.tc : Thread nD τ).loc main_arg7) (ix1 v) := by
  entry_read
  pointwise
theorem host8 (v : Fin 38016) (k : Fin 16) : V m c main_v0 (ix2 k v) = m ((c.tc : Thread nD τ).loc main_arg8) (ix2 v k) := by
  entry_read
  pointwise

/-! ## The inputs' blocks -/

theorem in0 (t : Fin cfg0.N) (d) (R : Fin 1024) (k : Fin 3584) :
    (cfg0.win 0).fill (cfg0.grid.coords t) d (iblk m c 0 t) (ix2 R k) = m ((c.tc : Thread nD τ).loc main_arg0) (ix2 (rowAt t R) k) := by
  rw [← V_main_arg0 m c]
  refine congrArg (V m c main_arg0) ?_
  have h0 : win0_0.index t 0 = t.val / 50 := tr0 t
  have h1 : win0_0.index t 1 = 0 := rfl
  funext a
  fin_cases a
  · refine Fin.ext ?_
    blk_simp [h0]
    show t.val / 50 * 1024 + R.val = 1024 * (t.val / 50) + R.val
    omega
  · refine Fin.ext ?_
    blk_simp [h1]
    rfl
theorem in1 (t : Fin cfg0.N) (d) (R : Fin 1024) (k : Fin 128) :
    (cfg0.win 1).fill (cfg0.grid.coords t) d (iblk m c 1 t) (ix2 R k) = m ((c.tc : Thread nD τ).loc main_arg1) (ix1 (rowAt t R)) := by
  rw [← host1 m c (rowAt t R) k]
  refine congrArg (V m c main_v4) ?_
  have h0 : win0_1.index t 0 = t.val / 50 := tr0 t
  have h1 : win0_1.index t 1 = 0 := rfl
  funext a
  fin_cases a
  · refine Fin.ext ?_
    blk_simp [h0]
    show t.val / 50 * 1024 + R.val = 1024 * (t.val / 50) + R.val
    omega
  · refine Fin.ext ?_
    blk_simp [h1]
    rfl
theorem in2 (t : Fin cfg0.N) (d) (R : Fin 1024) (k : Fin 3584) :
    (cfg0.win 2).fill (cfg0.grid.coords t) d (iblk m c 2 t) (ix2 R k) = m ((c.tc : Thread nD τ).loc main_arg2) (ix2 (rowAt t R) k) := by
  rw [← V_main_arg2 m c]
  refine congrArg (V m c main_arg2) ?_
  have h0 : win0_2.index t 0 = t.val / 50 := tr0 t
  have h1 : win0_2.index t 1 = 0 := rfl
  funext a
  fin_cases a
  · refine Fin.ext ?_
    blk_simp [h0]
    show t.val / 50 * 1024 + R.val = 1024 * (t.val / 50) + R.val
    omega
  · refine Fin.ext ?_
    blk_simp [h1]
    rfl
theorem in3 (t : Fin cfg0.N) (d) (R : Fin 1024) (k : Fin 128) :
    (cfg0.win 3).fill (cfg0.grid.coords t) d (iblk m c 3 t) (ix2 R k) = m ((c.tc : Thread nD τ).loc main_arg3) (ix1 (rowAt t R)) := by
  rw [← host3 m c (rowAt t R) k]
  refine congrArg (V m c main_v6) ?_
  have h0 : win0_3.index t 0 = t.val / 50 := tr0 t
  have h1 : win0_3.index t 1 = 0 := rfl
  funext a
  fin_cases a
  · refine Fin.ext ?_
    blk_simp [h0]
    show t.val / 50 * 1024 + R.val = 1024 * (t.val / 50) + R.val
    omega
  · refine Fin.ext ?_
    blk_simp [h1]
    rfl
theorem in4 (t : Fin cfg0.N) (d) (R : Fin 1024) (k : Fin 16) :
    (cfg0.win 4).fill (cfg0.grid.coords t) d (iblk m c 4 t) (ix2 R k) = m ((c.tc : Thread nD τ).loc main_arg4) (ix2 (rowAt t R) k) := by
  rw [← V_main_arg4 m c]
  refine congrArg (V m c main_arg4) ?_
  have h0 : win0_4.index t 0 = t.val / 50 := tr0 t
  have h1 : win0_4.index t 1 = 0 := rfl
  funext a
  fin_cases a
  · refine Fin.ext ?_
    blk_simp [h0]
    show t.val / 50 * 1024 + R.val = 1024 * (t.val / 50) + R.val
    omega
  · refine Fin.ext ?_
    blk_simp [h1]
    rfl
theorem in5 (t : Fin cfg0.N) (d) (R : Fin 1024) (k : Fin 128) :
    (cfg0.win 5).fill (cfg0.grid.coords t) d (iblk m c 5 t) (ix2 R k) = m ((c.tc : Thread nD τ).loc main_arg5) (ix1 (rowAt t R)) := by
  rw [← host5 m c (rowAt t R) k]
  refine congrArg (V m c main_v2) ?_
  have h0 : win0_5.index t 0 = t.val / 50 := tr0 t
  have h1 : win0_5.index t 1 = 0 := rfl
  funext a
  fin_cases a
  · refine Fin.ext ?_
    blk_simp [h0]
    show t.val / 50 * 1024 + R.val = 1024 * (t.val / 50) + R.val
    omega
  · refine Fin.ext ?_
    blk_simp [h1]
    rfl
theorem in6 (t : Fin cfg0.N) (d) (k : Fin 3584) (v : Fin 768) (hv : 768 * (t.val % 50) + v.val < 38016) :
    (cfg0.win 6).fill (cfg0.grid.coords t) d (iblk m c 6 t) (ix2 v k) = m ((c.tc : Thread nD τ).loc main_arg6) (ix2 ⟨768 * (t.val % 50) + v.val, hv⟩ k) := by
  have hm : (cfg0.win 6).moved (cfg0.grid.coords t) (ix2 v k) = true := by
    rw [Window.moved_iff]
    intro a
    fin_cases a
    · show v.val < (Pipeline.Clip.of (BitVec.ofNat 32 (grid0.coords t 1).val).toNat 768 38016).extent 768
      rw [ext_of]; omega
    · blk_simp
      exact k.isLt
  unfold Window.fill
  rw [dif_pos hm, ← V_main_arg6 m c]
  refine congrArg (V m c main_arg6) ?_
  have h0 : win0_6.index t 0 = t.val % 50 := tr1 t
  have h1 : win0_6.index t 1 = 0 := rfl
  funext a
  fin_cases a
  · refine Fin.ext ?_
    blk_simp [h0]
    show t.val % 50 * 768 + v.val = 768 * (t.val % 50) + v.val
    omega
  · refine Fin.ext ?_
    blk_simp [h1]
    rfl
theorem in7 (t : Fin cfg0.N) (d)  (v : Fin 768) (hv : 768 * (t.val % 50) + v.val < 38016) :
    (cfg0.win 7).fill (cfg0.grid.coords t) d (iblk m c 7 t) (ix2 (0 : Fin 1) v) = m ((c.tc : Thread nD τ).loc main_arg7) (ix1 ⟨768 * (t.val % 50) + v.val, hv⟩) := by
  have hm : (cfg0.win 7).moved (cfg0.grid.coords t) (ix2 (0 : Fin 1) v) = true := by
    rw [Window.moved_iff]
    intro a
    fin_cases a
    · blk_simp
      exact Nat.one_pos
    · show v.val < (Pipeline.Clip.of (BitVec.ofNat 32 (grid0.coords t 1).val).toNat 768 38016).extent 768
      rw [ext_of]; omega
  unfold Window.fill
  rw [dif_pos hm, ← host7 m c]
  refine congrArg (V m c main_v7) ?_
  have h0 : win0_7.index t 1 = t.val % 50 := tr1 t
  have h1 : win0_7.index t 0 = 0 := rfl
  funext a
  fin_cases a
  · refine Fin.ext ?_
    blk_simp [h1]
    rfl
  · refine Fin.ext ?_
    blk_simp [h0]
    show t.val % 50 * 768 + v.val = 768 * (t.val % 50) + v.val
    omega
theorem in8 (t : Fin cfg0.N) (d) (k : Fin 16) (v : Fin 768) (hv : 768 * (t.val % 50) + v.val < 38016) :
    (cfg0.win 8).fill (cfg0.grid.coords t) d (iblk m c 8 t) (ix2 k v) = m ((c.tc : Thread nD τ).loc main_arg8) (ix2 ⟨768 * (t.val % 50) + v.val, hv⟩ k) := by
  have hm : (cfg0.win 8).moved (cfg0.grid.coords t) (ix2 k v) = true := by
    rw [Window.moved_iff]
    intro a
    fin_cases a
    · blk_simp
      exact k.isLt
    · show v.val < (Pipeline.Clip.of (BitVec.ofNat 32 (grid0.coords t 1).val).toNat 768 38016).extent 768
      rw [ext_of]; omega
  unfold Window.fill
  rw [dif_pos hm, ← host8 m c]
  refine congrArg (V m c main_v0) ?_
  have h0 : win0_8.index t 1 = t.val % 50 := tr1 t
  have h1 : win0_8.index t 0 = 0 := rfl
  funext a
  fin_cases a
  · refine Fin.ext ?_
    blk_simp [h1]
    rfl
  · refine Fin.ext ?_
    blk_simp [h0]
    show t.val % 50 * 768 + v.val = 768 * (t.val % 50) + v.val
    omega

end Cert.FwdIdeal.Head
end
-- ==== Proof.FwdIdeal.Tile.lean ====
/- What one tile of the vocabulary adds, over the reals: the logits of a row, the running maximum, the running sum and the label's logit. -/
module

public import proofs.«01_k».proof.Proof.Gen.FwdIdeal.Skeleton
public import Idealize.ShloMosaic.Lib.Pointwise

@[expose] public section

set_option maxRecDepth 16384

noncomputable section

namespace Cert.FwdIdeal.Head

open Cert.FwdIdeal Cert.FwdIdeal.Gen
open Idealize.ShloMosaic Idealize.ShloMosaic.TcCoe

/-- The first head's logit of row `R` and column `v` of a tile (lane `l` of the row's scale): product of the codes, times both scales, plus twice the low-rank term. -/
def colP (x0 : FVec Ideal S1024x3584 .fp8e4m3) (x1 : FVec Ideal S1024x128 .f32) (x4 : FVec Ideal S1024x16 .bf16) (x6 : FVec Ideal S768x3584 .fp8e4m3)
    (x7 : FVec Ideal S1x768 .f32) (x8 : FVec Ideal S16x768 .bf16) (R : Fin 1024) (l : Fin 128) (v : Fin 768) : EReal :=
  (∑ k : Fin 3584, x0 (ix2 R k) * x6 (ix2 v k)) * x1 (ix2 R l) * x7 (ix2 0 v)
    + Ideal.ofBits .f32 0x40000000#32 * ∑ k : Fin 16, x4 (ix2 R k) * x8 (ix2 k v)

/-- The second head's logit. -/
def colR (x2 : FVec Ideal S1024x3584 .fp8e4m3) (x3 : FVec Ideal S1024x128 .f32) (x6 : FVec Ideal S768x3584 .fp8e4m3)
    (x7 : FVec Ideal S1x768 .f32) (R : Fin 1024) (l : Fin 128) (v : Fin 768) : EReal :=
  (∑ k : Fin 3584, x2 (ix2 R k) * x6 (ix2 v k)) * x3 (ix2 R l) * x7 (ix2 0 v)

/-- A tile's value in lane `l` of its plane `c` of 128 columns. -/
def planeAt (f : Fin 768 → EReal) (l : Fin 128) (c : ℕ) : EReal := if h : c * 128 + l.val < 768 then f ⟨c * 128 + l.val, h⟩ else 0

theorem planeAt_zero (f : Fin 768 → EReal) (l : Fin 128) : planeAt f l 0 = f ⟨l.val, by omega⟩ :=
  (dif_pos (by omega)).trans (congrArg f (Fin.ext (by simp)))
theorem planeAt_one (f : Fin 768 → EReal) (l : Fin 128) : planeAt f l 1 = f ⟨128 + l.val, by omega⟩ := dif_pos (by omega)
theorem planeAt_two (f : Fin 768 → EReal) (l : Fin 128) : planeAt f l 2 = f ⟨256 + l.val, by omega⟩ := dif_pos (by omega)
theorem planeAt_three (f : Fin 768 → EReal) (l : Fin 128) : planeAt f l 3 = f ⟨384 + l.val, by omega⟩ := dif_pos (by omega)
theorem planeAt_four (f : Fin 768 → EReal) (l : Fin 128) : planeAt f l 4 = f ⟨512 + l.val, by omega⟩ := dif_pos (by omega)
theorem planeAt_five (f : Fin 768 → EReal) (l : Fin 128) : planeAt f l 5 = f ⟨640 + l.val, by omega⟩ := dif_pos (by omega)

/-- The running maximum over the first `n` planes, from `m`. -/
def maxN (g : ℕ → EReal) (m : EReal) : ℕ → EReal
  | 0 => m
  | n + 1 => max (maxN g m n) (g n)

/-- The running sum of exponentials against `M` over the first `n` planes, from `s`. -/
def sumN (g : ℕ → EReal) (M s : EReal) : ℕ → EReal
  | 0 => s
  | n + 1 => sumN g M s n + Ideal.exp (g n - M)

/-- The label's logit where it lies in the first `n` planes (`lab` the label counted from the tile's first column), added to `b`. -/
def labN (g : ℕ → EReal) (l : Fin 128) (lab : BitVec 32) (b : EReal) : ℕ → EReal
  | 0 => b
  | n + 1 => labN g l lab b n + Scalar.select (IntOp.cmpi .eq (IntOp.addi (BitVec.ofNat 32 l.val) (BitVec.ofNat 32 (n * 128))) lab) (g n) 0

/-- The label of row `R`, counted from the first column of vocabulary tile `i 1`. -/
def labAt (i : grid0.Coords) (x5 : IVec S1024x128 32) (R : Fin 1024) (l : Fin 128) : BitVec 32 :=
  IntOp.subi (x5 (ix2 R l)) (Scalar.muli (BitVec.ofNat 32 (i 1).val) 768#32)

/-- The three running rows after a tile of `n` planes, from what they were. -/
structure Took (n : ℕ) (f : Fin 1024 → Fin 128 → Fin 768 → EReal) (lb : Fin 1024 → Fin 128 → BitVec 32)
    (m s b m' s' b' : FVec Ideal S1024x128 .f32) : Prop where
  mx : ∀ R l, m' (ix2 R l) = maxN (planeAt (f R l) l) (m (ix2 R l)) n
  sum : ∀ R l, s' (ix2 R l) = sumN (planeAt (f R l) l) (maxN (planeAt (f R l) l) (m (ix2 R l)) n)
    (s (ix2 R l) * Ideal.exp (m (ix2 R l) - maxN (planeAt (f R l) l) (m (ix2 R l)) n)) n
  lab : ∀ R l, b' (ix2 R l) = labN (planeAt (f R l) l) l (lb R l) (b (ix2 R l)) n

/-- The logsumexp of a row held as running maxima and sums in 128 lanes. -/
def lseOf (m s : Fin 128 → EReal) : EReal :=
  Finset.univ.fold max (Ideal.ofBits .f32 0xFF800000#32) m
    + Ideal.log (∑ l : Fin 128, s l * Ideal.exp (m l - Finset.univ.fold max (Ideal.ofBits .f32 0xFF800000#32) m))

/-- Rows are taken in two chunks of 512. -/
theorem row_cases (R : Fin 1024) : (∃ r : Fin 512, R = ⟨r.val, by omega⟩) ∨ ∃ r : Fin 512, R = ⟨512 + r.val, by omega⟩ := by
  by_cases h : R.val < 512
  · exact .inl ⟨⟨R.val, h⟩, rfl⟩
  · exact .inr ⟨⟨R.val - 512, by omega⟩, Fin.ext (by show R.val = 512 + (R.val - 512); omega)⟩

end Cert.FwdIdeal.Head
end
-- ==== Proof.FwdIdeal.Softmax.lean ====
/- The running maximum and the running sum of exponentials over the extended reals: what they are after some planes, and the logsumexp they give. -/
module

public import proofs.«01_k».proof.Proof.FwdIdeal.Tile
public import Mathlib.Data.EReal.Operations
public import Mathlib.Algebra.BigOperators.Fin
public import Mathlib.Logic.Equiv.Fin.Basic

@[expose] public section

set_option maxRecDepth 16384

noncomputable section

namespace Cert.FwdIdeal.Head

open Idealize.ShloMosaic

/-! ## The running maximum -/

theorem maxN_add (g : ℕ → EReal) (m : EReal) (p : ℕ) : ∀ n, maxN (fun c => g (p + c)) (maxN g m p) n = maxN g m (p + n)
  | 0 => rfl
  | n + 1 => congrArg (max · (g (p + n))) (maxN_add g m p n)

theorem maxN_congr {g g' : ℕ → EReal} (m : EReal) : ∀ n, (∀ c < n, g c = g' c) → maxN g m n = maxN g' m n
  | 0, _ => rfl
  | n + 1, h => congrArg₂ max (maxN_congr m n fun c hc => h c (by omega)) (h n (by omega))

theorem le_maxN (g : ℕ → EReal) (m : EReal) : ∀ n, m ≤ maxN g m n
  | 0 => le_rfl
  | n + 1 => (le_maxN g m n).trans (le_max_left _ _)

theorem apply_le_maxN (g : ℕ → EReal) (m : EReal) : ∀ n c, c < n → g c ≤ maxN g m n
  | n + 1, c, h => by
    rcases Nat.lt_succ_iff_lt_or_eq.mp h with h | rfl
    · exact (apply_le_maxN g m n c h).trans (le_max_left _ _)
    · exact le_max_right _ _

theorem maxN_le (g : ℕ → EReal) (m B : EReal) (hm : m ≤ B) : ∀ n, (∀ c < n, g c ≤ B) → maxN g m n ≤ B
  | 0, _ => hm
  | n + 1, h => max_le (maxN_le g m B hm n fun c hc => h c (by omega)) (h n (by omega))

/-! ## The running sum -/

theorem sumN_add (g : ℕ → EReal) (M s : EReal) (p : ℕ) : ∀ n, sumN (fun c => g (p + c)) M (sumN g M s p) n = sumN g M s (p + n)
  | 0 => rfl
  | n + 1 => congrArg (· + Ideal.exp (g (p + n) - M)) (sumN_add g M s p n)

theorem sumN_congr {g g' : ℕ → EReal} (M s : EReal) : ∀ n, (∀ c < n, g c = g' c) → sumN g M s n = sumN g' M s n
  | 0, _ => rfl
  | n + 1, h => by
    show sumN g M s n + Ideal.exp (g n - M) = sumN g' M s n + Ideal.exp (g' n - M)
    rw [sumN_congr M s n fun c hc => h c (by omega), h n (by omega)]

theorem exp_nonneg (x : EReal) : 0 ≤ Ideal.exp x := by
  induction x with
  | bot => exact le_rfl
  | top => exact le_top
  | coe r => exact EReal.coe_nonneg.mpr (Real.exp_pos r).le

theorem sumN_nonneg (g : ℕ → EReal) (M : EReal) : ∀ n, 0 ≤ sumN g M 0 n
  | 0 => le_rfl
  | n + 1 => add_nonneg (sumN_nonneg g M n) (exp_nonneg _)

/-- A term's exponential against the old maximum, scaled to the new one. -/
theorem exp_rescale {x M M' : EReal} (hx : x ≤ M) (hM : M ≤ M') (hb : M ≠ ⊥) :
    Ideal.exp (x - M) * Ideal.exp (M - M') = Ideal.exp (x - M') := by
  have htop : ∀ y : EReal, Ideal.exp (y - ⊤) = 0 := fun y => by
    rw [sub_eq_add_neg, EReal.neg_top, EReal.add_bot]; rfl
  rcases eq_or_ne M' ⊤ with rfl | h'
  · rw [htop, htop, mul_zero]
  · induction M with
    | bot => exact absurd rfl hb
    | top => exact absurd (top_le_iff.mp hM) h'
    | coe M =>
      induction M' with
      | bot => exact absurd (le_bot_iff.mp hM) (EReal.coe_ne_bot M)
      | top => exact absurd rfl h'
      | coe M' =>
        induction x with
        | bot =>
          rw [sub_eq_add_neg (⊥ : EReal), sub_eq_add_neg (⊥ : EReal), EReal.bot_add, EReal.bot_add]
          exact zero_mul _
        | top => exact absurd (top_le_iff.mp hx) (EReal.coe_ne_top M)
        | coe x =>
          rw [← EReal.coe_sub, ← EReal.coe_sub, ← EReal.coe_sub]
          show (Real.exp _ : EReal) * (Real.exp _ : EReal) = (Real.exp _ : EReal)
          rw [← EReal.coe_mul, ← Real.exp_add]
          congr 2; ring

/-- The running sum, scaled from one maximum to a larger one. -/
theorem sumN_rescale (g : ℕ → EReal) {M M' : EReal} (hM : M ≤ M') (hb : M ≠ ⊥) :
    ∀ n, (∀ c < n, g c ≤ M) → sumN g M 0 n * Ideal.exp (M - M') = sumN g M' 0 n
  | 0, _ => zero_mul _
  | n + 1, h => by
    show (sumN g M 0 n + Ideal.exp (g n - M)) * _ = sumN g M' 0 n + Ideal.exp (g n - M')
    rw [EReal.right_distrib_of_nonneg (sumN_nonneg g M n) (exp_nonneg _),
      sumN_rescale g hM hb n fun c hc => h c (by omega), exp_rescale (h n (by omega)) hM hb]

theorem sumN_eq_sum (g : ℕ → EReal) (M : EReal) (n : ℕ) : sumN g M 0 n = ∑ p : Fin n, Ideal.exp (g p.val - M) := by
  induction n with
  | zero => rfl
  | succ n ih => rw [Fin.sum_univ_castSucc]; exact congrArg (· + Ideal.exp (g n - M)) ih

/-! ## The label's logit -/

/-- What plane `n` adds to the label's logit. -/
def labTerm (g : ℕ → EReal) (l : Fin 128) (lab : BitVec 32) (n : ℕ) : EReal :=
  Scalar.select (IntOp.cmpi .eq (IntOp.addi (BitVec.ofNat 32 l.val) (BitVec.ofNat 32 (n * 128))) lab) (g n) 0

theorem labN_congr {g g' : ℕ → EReal} (l : Fin 128) {lab lab' : BitVec 32} (b : EReal) :
    ∀ n, (∀ c < n, labTerm g l lab c = labTerm g' l lab' c) → labN g l lab b n = labN g' l lab' b n
  | 0, _ => rfl
  | n + 1, h => congrArg₂ (· + ·) (labN_congr l b n fun c hc => h c (by omega)) (h n (by omega))

theorem labN_eq_sum (g : ℕ → EReal) (l : Fin 128) (lab : BitVec 32) (n : ℕ) :
    labN g l lab 0 n = ∑ p : Fin n, labTerm g l lab p.val := by
  induction n with
  | zero => rfl
  | succ n ih => rw [Fin.sum_univ_castSucc]; exact congrArg (· + labTerm g l lab n) ih

theorem labN_add (g : ℕ → EReal) (l : Fin 128) (lab lab' : BitVec 32) (b : EReal) (p : ℕ) :
    ∀ n, (∀ c < n, labTerm (fun c => g (p + c)) l lab' c = labTerm g l lab (p + c)) →
      labN (fun c => g (p + c)) l lab' (labN g l lab b p) n = labN g l lab b (p + n)
  | 0, _ => rfl
  | n + 1, h => congrArg₂ (· + ·) (labN_add g l lab lab' b p n fun c hc => h c (by omega)) (h n (by omega))

/-- Counting the label from a tile's first column compares the same. -/
theorem labTerm_shift (g : ℕ → EReal) (l : Fin 128) (lab : BitVec 32) (j c : ℕ) :
    labTerm (fun c => g (6 * j + c)) l (IntOp.subi lab (Scalar.muli (BitVec.ofNat 32 j) 768#32)) c = labTerm g l lab (6 * j + c) := by
  unfold labTerm
  have h : BitVec.ofNat 32 l.val + BitVec.ofNat 32 (c * 128) = lab - BitVec.ofNat 32 j * 768#32
      ↔ BitVec.ofNat 32 l.val + BitVec.ofNat 32 ((6 * j + c) * 128) = lab := by
    have hj : BitVec.ofNat 32 j * 768#32 = BitVec.ofNat 32 (j * 768) := (BitVec.ofNat_mul j 768).symm
    have hs : ∀ a b c : BitVec 32, a = b - c ↔ a + c = b := fun a b c =>
      ⟨fun h => by rw [h, BitVec.sub_add_cancel], fun h => by rw [← h, BitVec.add_sub_cancel]⟩
    rw [hs, hj, BitVec.add_assoc, ← BitVec.ofNat_add, show c * 128 + j * 768 = (6 * j + c) * 128 by ring]
  have e : IntOp.cmpi .eq (IntOp.addi (BitVec.ofNat 32 l.val) (BitVec.ofNat 32 (c * 128))) (IntOp.subi lab (Scalar.muli (BitVec.ofNat 32 j) 768#32))
      = IntOp.cmpi .eq (IntOp.addi (BitVec.ofNat 32 l.val) (BitVec.ofNat 32 ((6 * j + c) * 128))) lab := by
    show BitVec.ofBool (_ == _) = BitVec.ofBool (_ == _)
    exact congrArg BitVec.ofBool (decide_eq_decide.mpr h)
  rw [e]

/-! ## The row's logsumexp -/

/-- The logsumexp of a row of `N` values. -/
def lseRow (N : ℕ) (f : Fin N → EReal) : EReal :=
  Finset.univ.fold max (Ideal.ofBits .f32 0xFF800000#32) f
    + Ideal.log (∑ v : Fin N, Ideal.exp (f v - Finset.univ.fold max (Ideal.ofBits .f32 0xFF800000#32) f))

theorem ofBits_neg_inf : Ideal.ofBits .f32 0xFF800000#32 = (⊥ : EReal) := by
  simp [Ideal.ofBits, Ideal.ieee]

theorem fold_max_eq_sup {ι : Type} [Fintype ι] (f : ι → EReal) :
    Finset.univ.fold max (Ideal.ofBits .f32 0xFF800000#32) f = Finset.univ.sup f := by
  rw [ofBits_neg_inf]; rfl

/-- What the running maximum starts from. -/
abbrev NEG : EReal := Ideal.ofBits .f32 0xF149F2CA#32

theorem NEG_ne_bot : NEG ≠ ⊥ := by
  simp [NEG, Ideal.ofBits, Ideal.ieee, -EReal.coe_mul]
theorem NEG_ne_top : NEG ≠ ⊤ := by
  simp [NEG, Ideal.ofBits, Ideal.ieee, -EReal.coe_mul]

/-- The exponentials' sum against the row's maximum, where that is a real, is a positive real. -/
theorem sum_exp_real {N : ℕ} (hN : 0 < N) (f : Fin N → EReal) (B : ℝ) (hB : Finset.univ.sup f = (B : EReal)) :
    ∃ σ : ℝ, 0 < σ ∧ ∑ v : Fin N, Ideal.exp (f v - (B : EReal)) = (σ : EReal) := by
  have hle : ∀ v, f v ≤ (B : EReal) := fun v => hB ▸ Finset.le_sup (f := f) (Finset.mem_univ v)
  have hterm : ∀ v, ∃ r : ℝ, 0 ≤ r ∧ Ideal.exp (f v - (B : EReal)) = (r : EReal) := fun v => by
    have h := hle v
    generalize f v = x at h
    induction x with
    | bot => exact ⟨0, le_rfl, by rw [sub_eq_add_neg, EReal.bot_add]; rfl⟩
    | top => exact absurd (top_le_iff.mp h) (EReal.coe_ne_top B)
    | coe x => exact ⟨Real.exp (x - B), (Real.exp_pos _).le, by rw [← EReal.coe_sub]; rfl⟩
  choose r hr0 hr using hterm
  haveI : Nonempty (Fin N) := ⟨⟨0, hN⟩⟩
  obtain ⟨v0, -, hv0⟩ := Finset.exists_mem_eq_sup Finset.univ Finset.univ_nonempty f
  have h1 : r v0 = 1 := by
    have e := hr v0
    rw [← hv0, hB, ← EReal.coe_sub, sub_self] at e
    have e' : ((Real.exp 0 : ℝ) : EReal) = (r v0 : EReal) := e
    rw [Real.exp_zero] at e'
    exact (EReal.coe_injective e').symm
  refine ⟨∑ v, r v, ?_, ?_⟩
  · exact lt_of_lt_of_le (by rw [h1]; exact one_pos) (Finset.single_le_sum (fun v _ => hr0 v) (Finset.mem_univ v0))
  · rw [Finset.sum_congr rfl fun v _ => hr v]
    exact (map_sum (⟨⟨fun x : ℝ => (x : EReal), rfl⟩, EReal.coe_add⟩ : ℝ →+ EReal) r Finset.univ).symm

/-- The logsumexp of a row may be taken against any real at least its maximum. -/
theorem lse_shift {N : ℕ} (hN : 0 < N) (f : Fin N → EReal) (a : EReal) (ha : a ≠ ⊥) (ha' : a ≠ ⊤) :
    max a (Finset.univ.sup f) + Ideal.log (∑ v : Fin N, Ideal.exp (f v - max a (Finset.univ.sup f)))
      = Finset.univ.sup f + Ideal.log (∑ v : Fin N, Ideal.exp (f v - Finset.univ.sup f)) := by
  rcases le_total a (Finset.univ.sup f) with h | h
  · rw [max_eq_right h]
  rw [max_eq_left h]
  have hle : ∀ v, f v ≤ Finset.univ.sup f := fun v => Finset.le_sup (f := f) (Finset.mem_univ v)
  generalize hB : Finset.univ.sup f = B at *
  induction B with
  | top => exact absurd (top_le_iff.mp h) ha'
  | bot =>
    rw [EReal.bot_add, Finset.sum_congr rfl fun v _ => show Ideal.exp (f v - a) = 0 by
      rw [le_bot_iff.mp (hle v), sub_eq_add_neg, EReal.bot_add]; rfl]
    rw [Finset.sum_const_zero]
    have : Ideal.log 0 = ⊥ := by
      show (if (0 : ℝ) ≤ 0 then (⊥ : EReal) else _) = ⊥
      rw [if_pos le_rfl]
    rw [this, EReal.add_bot]
  | coe B =>
    obtain ⟨σ, hσ, hs⟩ := sum_exp_real hN f B hB
    have e : ∑ v : Fin N, Ideal.exp (f v - a) = (∑ v : Fin N, Ideal.exp (f v - (B : EReal))) * Ideal.exp (B - a) := by
      have key : ∀ s : Finset (Fin N), (∑ v ∈ s, Ideal.exp (f v - (B : EReal))) * Ideal.exp (B - a) = ∑ v ∈ s, Ideal.exp (f v - a)
          ∧ 0 ≤ ∑ v ∈ s, Ideal.exp (f v - (B : EReal)) := fun s => by
        induction s using Finset.induction_on with
        | empty => exact ⟨by rw [Finset.sum_empty, Finset.sum_empty, zero_mul], by rw [Finset.sum_empty]⟩
        | insert v s hv ih =>
          rw [Finset.sum_insert hv, Finset.sum_insert hv, EReal.right_distrib_of_nonneg (exp_nonneg _) ih.2, ih.1,
            exp_rescale (hle v) h (EReal.coe_ne_bot B)]
          exact ⟨rfl, add_nonneg (exp_nonneg _) ih.2⟩
      exact (key Finset.univ).1.symm
    rw [e, hs]
    induction a with
    | bot => exact absurd rfl ha
    | top => exact absurd rfl ha'
    | coe a =>
      rw [← EReal.coe_sub]
      show (a : EReal) + Ideal.log ((σ : EReal) * ((Real.exp (B - a) : ℝ) : EReal)) = (B : EReal) + Ideal.log (σ : EReal)
      rw [← EReal.coe_mul, Ideal.log_coe, Ideal.log_coe, if_neg (not_le.mpr hσ), if_neg (not_le.mpr (mul_pos hσ (Real.exp_pos _))),
        Real.log_mul hσ.ne' (Real.exp_pos _).ne', Real.log_exp, ← EReal.coe_add, ← EReal.coe_add]
      congr 1; ring

/-! ## A row of the vocabulary in 297 planes of 128 lanes -/

/-- A row's value in lane `l` of its plane `p`. -/
def planeRow (f : Fin 38016 → EReal) (l : Fin 128) (p : ℕ) : EReal := if h : p * 128 + l.val < 38016 then f ⟨p * 128 + l.val, h⟩ else 0

theorem planeRow_of (f : Fin 38016 → EReal) (l : Fin 128) (p : Fin 297) : planeRow f l p.val = f ⟨p.val * 128 + l.val, by omega⟩ :=
  dif_pos (by omega)

/-- Lane by lane and plane by plane is column by column. -/
theorem sum_planes (F : Fin 38016 → EReal) : ∑ q : Fin 128, ∑ p : Fin 297, F ⟨p.val * 128 + q.val, by omega⟩ = ∑ v : Fin 38016, F v := by
  rw [Finset.sum_comm, ← Fintype.sum_prod_type' (f := fun (p : Fin 297) (q : Fin 128) => F ⟨p.val * 128 + q.val, by omega⟩)]
  refine Fintype.sum_equiv ((finProdFinEquiv (m := 297) (n := 128)).trans (finCongr (by norm_num))) _ _ fun x => ?_
  refine congrArg F (Fin.ext ?_)
  show x.1.val * 128 + x.2.val = x.2.val + 128 * x.1.val
  omega

theorem sup_planes (f : Fin 38016 → EReal) :
    (Finset.univ.sup fun q : Fin 128 => maxN (planeRow f q) NEG 297) = max NEG (Finset.univ.sup f) := by
  refine le_antisymm (Finset.sup_le fun q _ => maxN_le _ _ _ (le_max_left _ _) 297 fun c hc => ?_) (max_le ?_ (Finset.sup_le fun v _ => ?_))
  · rw [planeRow_of f q ⟨c, hc⟩]
    exact (Finset.le_sup (f := f) (Finset.mem_univ _)).trans (le_max_right _ _)
  · exact (le_maxN (planeRow f 0) NEG 297).trans (Finset.le_sup (f := fun q : Fin 128 => maxN (planeRow f q) NEG 297) (Finset.mem_univ 0))
  · have hv := v.isLt
    have hp : v.val / 128 < 297 := by omega
    have e : f v = planeRow f ⟨v.val % 128, by omega⟩ (v.val / 128) := by
      rw [planeRow_of f ⟨v.val % 128, by omega⟩ ⟨v.val / 128, hp⟩]
      exact congrArg f (Fin.ext (by show v.val = v.val / 128 * 128 + v.val % 128; omega))
    rw [e]
    exact (apply_le_maxN _ NEG 297 _ hp).trans
      (Finset.le_sup (f := fun q : Fin 128 => maxN (planeRow f q) NEG 297) (Finset.mem_univ _))

/-- The running rows of a whole vocabulary give the row's logsumexp. -/
theorem lseOf_rows (f : Fin 38016 → EReal) :
    lseOf (fun q => maxN (planeRow f q) NEG 297) (fun q => sumN (planeRow f q) (maxN (planeRow f q) NEG 297) 0 297) = lseRow 38016 f := by
  unfold lseOf lseRow
  rw [fold_max_eq_sup, fold_max_eq_sup, sup_planes]
  have e : ∀ q : Fin 128, sumN (planeRow f q) (maxN (planeRow f q) NEG 297) 0 297
        * Ideal.exp (maxN (planeRow f q) NEG 297 - max NEG (Finset.univ.sup f))
      = ∑ p : Fin 297, Ideal.exp (f ⟨p.val * 128 + q.val, by omega⟩ - max NEG (Finset.univ.sup f)) := fun q => by
    rw [sumN_rescale (planeRow f q) (sup_planes f ▸ Finset.le_sup (f := fun q : Fin 128 => maxN (planeRow f q) NEG 297) (Finset.mem_univ q))
      (fun h => NEG_ne_bot (le_bot_iff.mp (h ▸ le_maxN (planeRow f q) NEG 297))) 297 (fun c hc => apply_le_maxN _ _ _ _ hc), sumN_eq_sum]
    exact Finset.sum_congr rfl fun p _ => by rw [planeRow_of]
  rw [Finset.sum_congr rfl fun q _ => e q, sum_planes fun v => Ideal.exp (f v - max NEG (Finset.univ.sup f))]
  exact lse_shift (by norm_num) f NEG NEG_ne_bot NEG_ne_top

/-- The logit of the label. -/
def labRow (f : Fin 38016 → EReal) (lab : BitVec 32) : EReal :=
  ∑ v : Fin 38016, Scalar.select (IntOp.cmpi .eq (BitVec.ofNat 32 v.val) lab) (f v) 0

/-- The lanes' label logits sum to the row's. -/
theorem labN_rows (f : Fin 38016 → EReal) (lab : BitVec 32) :
    ∑ q : Fin 128, labN (planeRow f q) q lab 0 297 = labRow f lab := by
  rw [labRow, ← sum_planes]
  refine Finset.sum_congr rfl fun q _ => ?_
  rw [labN_eq_sum]
  refine Finset.sum_congr rfl fun p _ => ?_
  unfold labTerm
  rw [planeRow_of]
  have : IntOp.addi (BitVec.ofNat 32 q.val) (BitVec.ofNat 32 (p.val * 128)) = BitVec.ofNat 32 (p.val * 128 + q.val) := by
    show BitVec.ofNat 32 q.val + BitVec.ofNat 32 (p.val * 128) = _
    rw [← BitVec.ofNat_add, Nat.add_comm]
  rw [this]

/-! ## The running rows after some planes -/

/-- The three running rows after `n` planes of the rows `f`, labels `lab`. -/
structure Rows (n : ℕ) (f : Fin 1024 → Fin 38016 → EReal) (lab : Fin 1024 → BitVec 32) (m s b : FVec Ideal S1024x128 .f32) : Prop where
  mx : ∀ R l, m (ix2 R l) = maxN (planeRow (f R) l) NEG n
  sum : ∀ R l, s (ix2 R l) = sumN (planeRow (f R) l) (maxN (planeRow (f R) l) NEG n) 0 n
  lab : ∀ R l, b (ix2 R l) = labN (planeRow (f R) l) l (lab R) 0 n

theorem rows_zero (f : Fin 1024 → Fin 38016 → EReal) (lab : Fin 1024 → BitVec 32) : Rows 0 f lab (fun _ => NEG) (fun _ => 0) (fun _ => 0) :=
  ⟨fun _ _ => rfl, fun _ _ => rfl, fun _ _ => rfl⟩

/-- A tile taken in. -/
theorem Rows.took {j n : ℕ} {f : Fin 1024 → Fin 38016 → EReal} {lab : Fin 1024 → BitVec 32} {m s b m' s' b' : FVec Ideal S1024x128 .f32}
    (h : Rows (6 * j) f lab m s b) {ft : Fin 1024 → Fin 128 → Fin 768 → EReal} {lb : Fin 1024 → Fin 128 → BitVec 32}
    (ht : Took n ft lb m s b m' s' b')
    (hf : ∀ R l c, c < n → planeAt (ft R l) l c = planeRow (f R) l (6 * j + c))
    (hl : ∀ R l, lb R l = IntOp.subi (lab R) (Scalar.muli (BitVec.ofNat 32 j) 768#32)) : Rows (6 * j + n) f lab m' s' b' := by
  have hM : ∀ R l, maxN (planeAt (ft R l) l) (m (ix2 R l)) n = maxN (planeRow (f R) l) NEG (6 * j + n) := fun R l => by
    rw [h.mx, maxN_congr _ n (hf R l), maxN_add (planeRow (f R) l) NEG (6 * j) n]
  refine ⟨fun R l => (ht.mx R l).trans (hM R l), fun R l => ?_, fun R l => ?_⟩
  · rw [ht.sum, hM, h.sum, h.mx, sumN_congr _ _ n (hf R l), sumN_rescale _ ?_ ?_ _ fun c hc => apply_le_maxN _ _ _ _ hc, sumN_add (planeRow (f R) l)]
    · rw [← maxN_add (planeRow (f R) l) NEG (6 * j) n]; exact le_maxN _ _ n
    · exact fun e => NEG_ne_bot (le_bot_iff.mp (e ▸ le_maxN (planeRow (f R) l) NEG (6 * j)))
  · rw [ht.lab, h.lab, hl, labN_congr (g' := fun c => planeRow (f R) l (6 * j + c)) l (lab' := IntOp.subi (lab R) (Scalar.muli (BitVec.ofNat 32 j) 768#32))]
    · exact labN_add _ _ _ _ _ _ _ fun c _ => labTerm_shift _ _ _ _ _
    · intro c hc
      unfold labTerm
      rw [hf R l c hc]

end Cert.FwdIdeal.Head
end
-- ==== Proof.FwdIdeal.Spec.lean ====
/- The forward head's values in plain terms: the logits, and the log-ratio of the label's probability. -/
module

public import proofs.«01_k».proof.Proof.FwdIdeal.Softmax

@[expose] public section

noncomputable section

namespace Cert.FwdIdeal.Head

open Cert.FwdIdeal Cert.FwdIdeal.Gen
open Idealize.ShloMosaic Idealize.ShloMosaic.TcCoe

/-! ## The head's values, in plain terms -/

/-- The first head's logit of token `T` and vocabulary entry `v`: product of the codes, times both scales, plus twice the low-rank term. -/
def logitP (a0 : S8192x3584.Idx → EReal) (a1 : S8192.Idx → EReal) (a4 : S8192x16.Idx → EReal) (a6 : S38016x3584.Idx → EReal)
    (a7 : S38016.Idx → EReal) (a8 : S38016x16.Idx → EReal) (T : Fin 8192) (v : Fin 38016) : EReal :=
  (∑ k : Fin 3584, a0 (ix2 T k) * a6 (ix2 v k)) * a1 (ix1 T) * a7 (ix1 v)
    + Ideal.ofBits .f32 0x40000000#32 * ∑ k : Fin 16, a4 (ix2 T k) * a8 (ix2 v k)

/-- The second head's logit. -/
def logitR (a2 : S8192x3584.Idx → EReal) (a3 : S8192.Idx → EReal) (a6 : S38016x3584.Idx → EReal) (a7 : S38016.Idx → EReal)
    (T : Fin 8192) (v : Fin 38016) : EReal :=
  (∑ k : Fin 3584, a2 (ix2 T k) * a6 (ix2 v k)) * a3 (ix1 T) * a7 (ix1 v)

/-- The log-ratio of the label's probability under two rows of logits. -/
def ratio (f g : Fin 38016 → EReal) (lab : BitVec 32) : EReal :=
  (labRow f lab - lseRow 38016 f) - (labRow g lab - lseRow 38016 g)

/-- The lanes' maxima and sums of all 297 planes give the row's logsumexp. -/
theorem Rows.lse {f : Fin 1024 → Fin 38016 → EReal} {lab : Fin 1024 → BitVec 32} {m s b : FVec Ideal S1024x128 .f32}
    (h : Rows 297 f lab m s b) (R : Fin 1024) : lseOf (fun q => m (ix2 R q)) (fun q => s (ix2 R q)) = lseRow 38016 (f R) :=
  (congrArg₂ lseOf (funext (h.mx R)) (funext (h.sum R))).trans (lseOf_rows (f R))

/-- The lanes' label logits sum to the row's. -/
theorem Rows.labSum {f : Fin 1024 → Fin 38016 → EReal} {lab : Fin 1024 → BitVec 32} {m s b : FVec Ideal S1024x128 .f32}
    (h : Rows 297 f lab m s b) (R : Fin 1024) : ∑ q : Fin 128, b (ix2 R q) = labRow (f R) (lab R) :=
  (Finset.sum_congr rfl fun q _ => h.lab R q).trans (labN_rows (f R) (lab R))

end Cert.FwdIdeal.Head
end
-- ==== Proof.Reads.lean ====
/- What loads read of a buffer that was stored into piece by piece: loads of whole unit-stride rectangles, and the contents at one index. -/
module

public import Idealize.ShloMosaic.Lib.Pipeline.ValueKit
public import Idealize.ShloMosaic.Lib.WritesUnit
public import Idealize.ShloMosaic.Lib.Pointwise

@[expose] public section

namespace Cert.Reads

open Idealize.ShloMosaic

variable {sig : RefSig} {κ : Kind} {sp : Space} {s : Shape} {e : EltTy} {Val : EltTy → Type}

/-- A load of the rectangle stored last is its payload. -/
theorem readCov_hit [∀ e, Nonempty (Val e)] (v : View sig κ sp s e) {off size : Fin s.rank → ℕ} (inb inb' : ∀ a, off a + size a ≤ s.size a)
    (w : (Rect.unit off size inb).shape.Idx → Val e) (L : List (View.Piece Val s e)) :
    v.readCov ((⟨Rect.unit off size inb, w⟩ : View.Piece Val s e) :: L) (Rect.unit off size inb').toLoadRect = w := by
  funext j
  exact View.read_writes_cons_unit_of_mem v v.junk inb w L _ j rfl (fun a => Rect.idx_unit_val off size inb j a)

/-- A load of a rectangle apart from the one stored last, on some axis, reads the earlier stores. -/
theorem readCov_miss [∀ e, Nonempty (Val e)] (v : View sig κ sp s e) {off off' size size' : Fin s.rank → ℕ} (inb : ∀ a, off a + size a ≤ s.size a)
    (inb' : ∀ a, off' a + size' a ≤ s.size a)
    (w : (Rect.unit off size inb).shape.Idx → Val e) (L : List (View.Piece Val s e))
    (h : ∃ a, off' a + size' a ≤ off a ∨ off a + size a ≤ off' a) :
    v.readCov ((⟨Rect.unit off size inb, w⟩ : View.Piece Val s e) :: L) (Rect.unit off' size' inb').toLoadRect
      = v.readCov L (Rect.unit off' size' inb').toLoadRect := by
  funext j
  obtain ⟨a, ha⟩ := h
  refine View.read_writes_cons_unit_of_not_mem v v.junk inb w L _ rfl a ?_
  have h1 := Rect.idx_unit_val off' size' inb' j a
  have h2 : (j a : ℕ) < size' a := (j a).isLt
  have h3 : (((Rect.unit off' size' inb').toLoadRect.idx j a : Fin _) : ℕ) = off' a + (j a : ℕ) := h1
  rw [h3]
  omega

/-- A load within the rectangle stored last is that part of the payload. -/
theorem readCov_in [∀ e, Nonempty (Val e)] (v : View sig κ sp s e) {off off' size size' : Fin s.rank → ℕ} (inb : ∀ a, off a + size a ≤ s.size a)
    (inb' : ∀ a, off' a + size' a ≤ s.size a)
    (w : (Rect.unit off size inb).shape.Idx → Val e) (L : List (View.Piece Val s e))
    (h : ∀ a, off a ≤ off' a ∧ off' a + size' a ≤ off a + size a) :
    v.readCov ((⟨Rect.unit off size inb, w⟩ : View.Piece Val s e) :: L) (Rect.unit off' size' inb').toLoadRect
      = fun j => w fun a => ⟨off' a + (j a).val - off a, by
          have h1 : (j a).val < size' a := (j a).isLt
          have h2 := h a
          show _ < size a
          omega⟩ := by
  funext j
  refine View.read_writes_cons_unit_of_mem v v.junk inb w L _ _ rfl (fun a => ?_)
  have h3 : (((Rect.unit off' size' inb').toLoadRect.idx j a : Fin _) : ℕ) = off' a + (j a : ℕ) := Rect.idx_unit_val off' size' inb' j a
  have h2 := h a
  rw [h3]
  show _ = off a + (off' a + (j a).val - off a)
  omega

/-- A load of the whole of a buffer whose stores cover it reads what they leave. -/
theorem readCov_all [∀ e, Nonempty (Val e)] (v : View sig κ sp s e) (f : v.ty.Contents Val) {off : Fin s.rank → ℕ} (inb : ∀ a, off a + s.size a ≤ s.size a)
    (L : List (View.Piece Val s e)) (h : ∀ a, off a = 0) (hL : ∀ y, ∃ p ∈ L, y ∈ p.1.set) :
    v.readCov L (Rect.unit off s.size inb).toLoadRect = v.read Val (v.writes Val f L) := by
  rw [View.read_writes_eq_canon v f L hL, View.readCov_eq_canon_ld v L (Rect.unit off s.size inb) hL, View.ld_unit_lit inb _ h]

/-- A load of a buffer held at contents reading `X` is `X` at the rectangle. -/
theorem readAt_unread (m : Memref sig κ sp s e) (hm : m.IsWhole) (X : s.Idx → Val e) {off size : Fin s.rank → ℕ}
    (inb : ∀ a, off a + size a ≤ s.size a) :
    View.readAt Val m.view (Rect.unit off size inb).toLoadRect (hm.unread X) = View.ld X (Rect.unit off size inb) :=
  congrArg (fun Y => View.ld Y (Rect.unit off size inb)) (hm.read_unread X)

end Cert.Reads
end
-- ==== Proof.FwdIdeal.ValsA.lean ====
/- What the body leaves, case A, over the reals: the tile's logits and the running rows. -/
module

public import proofs.«01_k».proof.Proof.FwdIdeal.RunA
public import proofs.«01_k».proof.Proof.FwdIdeal.Tile
public import proofs.«01_k».proof.Proof.Reads

@[expose] public section

set_option maxRecDepth 16384

noncomputable section

namespace Cert.FwdIdeal.Head

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
/-- The first head's running rows take the tile in. -/
theorem tookA_P (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : condInit i) (hc2 : k0_cond2 i = 1#1) (hc3 : ¬ k0_cond3 i = 1#1) (hc4 : ¬ k0_cond4 i = 1#1)
    (x0 : Vec Ideal S1024x3584 .fp8e4m3) (x1 : Vec Ideal S1024x128 .f32) (x2 : Vec Ideal S1024x3584 .fp8e4m3) (x3 : Vec Ideal S1024x128 .f32) (x4 : Vec Ideal S1024x16 .bf16) (x5 : Vec Ideal S1024x128 .i32) (x6 : Vec Ideal S768x3584 .fp8e4m3) (x7 : Vec Ideal S1x768 .f32) (x8 : Vec Ideal S16x768 .bf16) (x9 : Vec Ideal S1024x768 .f32) (x10 : Vec Ideal S1024x128 .f32) (x11 : Vec Ideal S1024x1 .f32) (x12 : Vec Ideal S1024x128 .f32) (x13 : Vec Ideal S1024x128 .f32) (x14 : Vec Ideal S1024x128 .f32) (x15 : Vec Ideal S1024x128 .f32) (x16 : Vec Ideal S1024x128 .f32) (x17 : Vec Ideal S1024x128 .f32) :
    Took 6 (colP x0 x1 x4 x6 x7 x8) (labAt i x5) (fun _ => Ideal.ofBits .f32 0xF149F2CA#32) (fun _ => 0) (fun _ => 0) ((runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.1) ((runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.1) ((runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.1) := by
  unfold runA; dsimp only; sl_unfold_words
  simp (disch := decide) only [Cert.Reads.readAt_unread, Cert.Reads.readCov_hit, Cert.Reads.readCov_miss, Cert.Reads.readCov_in]
  constructor
  all_goals
    intro R l
    rcases row_cases R with ⟨r, rfl⟩ | ⟨r, rfl⟩
    · rw [View.read_writes_cons_unit_of_not_mem _ _ _ _ _ _ rfl (0 : Fin 2) (Or.inl r.isLt),
        View.read_writes_cons_unit_of_mem _ _ _ _ _ _ (ix2 r l) rfl (by intro a; fin_cases a <;> simp)]
      unfold_payloads
      pointwise
      simp only [maxN, sumN, labN, planeAt_zero, planeAt_one, planeAt_two, planeAt_three, planeAt_four, planeAt_five, colP, colR, labAt, zero_add, zero_mul]
      first | done | rfl
    · rw [View.read_writes_cons_unit_of_mem _ _ _ _ _ _ (ix2 r l) rfl (by intro a; fin_cases a <;> simp)]
      unfold_payloads
      pointwise
      simp only [maxN, sumN, labN, planeAt_zero, planeAt_one, planeAt_two, planeAt_three, planeAt_four, planeAt_five, colP, colR, labAt, zero_add, zero_mul]
      first | done | rfl

set_option maxHeartbeats 4000000 in
/-- The second head's running rows take the tile in. -/
theorem tookA_R (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : condInit i) (hc2 : k0_cond2 i = 1#1) (hc3 : ¬ k0_cond3 i = 1#1) (hc4 : ¬ k0_cond4 i = 1#1)
    (x0 : Vec Ideal S1024x3584 .fp8e4m3) (x1 : Vec Ideal S1024x128 .f32) (x2 : Vec Ideal S1024x3584 .fp8e4m3) (x3 : Vec Ideal S1024x128 .f32) (x4 : Vec Ideal S1024x16 .bf16) (x5 : Vec Ideal S1024x128 .i32) (x6 : Vec Ideal S768x3584 .fp8e4m3) (x7 : Vec Ideal S1x768 .f32) (x8 : Vec Ideal S16x768 .bf16) (x9 : Vec Ideal S1024x768 .f32) (x10 : Vec Ideal S1024x128 .f32) (x11 : Vec Ideal S1024x1 .f32) (x12 : Vec Ideal S1024x128 .f32) (x13 : Vec Ideal S1024x128 .f32) (x14 : Vec Ideal S1024x128 .f32) (x15 : Vec Ideal S1024x128 .f32) (x16 : Vec Ideal S1024x128 .f32) (x17 : Vec Ideal S1024x128 .f32) :
    Took 6 (colR x2 x3 x6 x7) (labAt i x5) (fun _ => Ideal.ofBits .f32 0xF149F2CA#32) (fun _ => 0) (fun _ => 0) ((runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.1) ((runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.2.1) ((runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.2.2) := by
  unfold runA; dsimp only; sl_unfold_words
  simp (disch := decide) only [Cert.Reads.readAt_unread, Cert.Reads.readCov_hit, Cert.Reads.readCov_miss, Cert.Reads.readCov_in]
  constructor
  all_goals
    intro R l
    rcases row_cases R with ⟨r, rfl⟩ | ⟨r, rfl⟩
    · rw [View.read_writes_cons_unit_of_not_mem _ _ _ _ _ _ rfl (0 : Fin 2) (Or.inl r.isLt),
        View.read_writes_cons_unit_of_mem _ _ _ _ _ _ (ix2 r l) rfl (by intro a; fin_cases a <;> simp)]
      unfold_payloads
      pointwise
      simp only [maxN, sumN, labN, planeAt_zero, planeAt_one, planeAt_two, planeAt_three, planeAt_four, planeAt_five, colP, colR, labAt, zero_add, zero_mul]
      first | done | rfl
    · rw [View.read_writes_cons_unit_of_mem _ _ _ _ _ _ (ix2 r l) rfl (by intro a; fin_cases a <;> simp)]
      unfold_payloads
      pointwise
      simp only [maxN, sumN, labN, planeAt_zero, planeAt_one, planeAt_two, planeAt_three, planeAt_four, planeAt_five, colP, colR, labAt, zero_add, zero_mul]
      first | done | rfl

set_option maxHeartbeats 4000000 in
/-- The logits buffer holds the tile's logits. -/
theorem logitsA (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : condInit i) (hc2 : k0_cond2 i = 1#1) (hc3 : ¬ k0_cond3 i = 1#1) (hc4 : ¬ k0_cond4 i = 1#1)
    (x0 : Vec Ideal S1024x3584 .fp8e4m3) (x1 : Vec Ideal S1024x128 .f32) (x2 : Vec Ideal S1024x3584 .fp8e4m3) (x3 : Vec Ideal S1024x128 .f32) (x4 : Vec Ideal S1024x16 .bf16) (x5 : Vec Ideal S1024x128 .i32) (x6 : Vec Ideal S768x3584 .fp8e4m3) (x7 : Vec Ideal S1x768 .f32) (x8 : Vec Ideal S16x768 .bf16) (x9 : Vec Ideal S1024x768 .f32) (x10 : Vec Ideal S1024x128 .f32) (x11 : Vec Ideal S1024x1 .f32) (x12 : Vec Ideal S1024x128 .f32) (x13 : Vec Ideal S1024x128 .f32) (x14 : Vec Ideal S1024x128 .f32) (x15 : Vec Ideal S1024x128 .f32) (x16 : Vec Ideal S1024x128 .f32) (x17 : Vec Ideal S1024x128 .f32) (R : Fin 1024) (l : Fin 128) (n : Fin 6) :
    (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.1 (ix2 R ⟨n.val * 128 + l.val, by omega⟩) = colP x0 x1 x4 x6 x7 x8 R l ⟨n.val * 128 + l.val, by omega⟩ := by
  unfold runA; dsimp only; sl_unfold_words
  simp (disch := decide) only [Cert.Reads.readAt_unread, Cert.Reads.readCov_hit, Cert.Reads.readCov_miss, Cert.Reads.readCov_in]
  rcases row_cases R with ⟨r, rfl⟩ | ⟨r, rfl⟩
  all_goals
    fin_cases n
    all_goals
      simp only [Nat.zero_mul, Nat.one_mul, Nat.reduceMul, Nat.zero_add]
      repeat
        first
          | refine (View.read_writes_cons_unit_of_not_mem _ _ _ _ _ _ rfl (0 : Fin 2) (Or.inl r.isLt)).trans ?_
          | refine (View.read_writes_cons_unit_of_not_mem _ _ _ _ _ _ rfl (1 : Fin 2) (Or.inl ?_)).trans ?_
            · simp <;> omega
          | fail
      refine (View.read_writes_cons_unit_of_mem _ _ _ _ _ _ (ix2 r l) rfl ?_).trans ?_
      · intro a; fin_cases a <;> simp
      unfold_payloads
      pointwise
      simp only [colP]

end Cert.FwdIdeal.Head

end
-- ==== Proof.FwdIdeal.ValsB.lean ====
/- What the body leaves, case B, over the reals: the tile's logits and the running rows. -/
module

public import proofs.«01_k».proof.Proof.FwdIdeal.RunB
public import proofs.«01_k».proof.Proof.FwdIdeal.Tile
public import proofs.«01_k».proof.Proof.Reads

@[expose] public section

set_option maxRecDepth 16384

noncomputable section

namespace Cert.FwdIdeal.Head

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
/-- The first head's running rows take the tile in. -/
theorem tookB_P (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : ¬ condInit i) (hc2 : k0_cond2 i = 1#1) (hc3 : ¬ k0_cond3 i = 1#1) (hc4 : ¬ k0_cond4 i = 1#1)
    (x0 : Vec Ideal S1024x3584 .fp8e4m3) (x1 : Vec Ideal S1024x128 .f32) (x2 : Vec Ideal S1024x3584 .fp8e4m3) (x3 : Vec Ideal S1024x128 .f32) (x4 : Vec Ideal S1024x16 .bf16) (x5 : Vec Ideal S1024x128 .i32) (x6 : Vec Ideal S768x3584 .fp8e4m3) (x7 : Vec Ideal S1x768 .f32) (x8 : Vec Ideal S16x768 .bf16) (x9 : Vec Ideal S1024x768 .f32) (x10 : Vec Ideal S1024x128 .f32) (x11 : Vec Ideal S1024x1 .f32) (x12 : Vec Ideal S1024x128 .f32) (x13 : Vec Ideal S1024x128 .f32) (x14 : Vec Ideal S1024x128 .f32) (x15 : Vec Ideal S1024x128 .f32) (x16 : Vec Ideal S1024x128 .f32) (x17 : Vec Ideal S1024x128 .f32) :
    Took 6 (colP x0 x1 x4 x6 x7 x8) (labAt i x5) x12 x13 x14 ((runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.1) ((runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.1) ((runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.1) := by
  unfold runB; dsimp only; sl_unfold_words
  simp (disch := decide) only [Cert.Reads.readAt_unread, Cert.Reads.readCov_hit, Cert.Reads.readCov_miss]
  constructor
  all_goals
    intro R l
    rcases row_cases R with ⟨r, rfl⟩ | ⟨r, rfl⟩
    · rw [View.read_writes_cons_unit_of_not_mem _ _ _ _ _ _ rfl (0 : Fin 2) (Or.inl r.isLt),
        View.read_writes_cons_unit_of_mem _ _ _ _ _ _ (ix2 r l) rfl (by intro a; fin_cases a <;> simp)]
      unfold_payloads
      pointwise
      simp only [maxN, sumN, labN, planeAt_zero, planeAt_one, planeAt_two, planeAt_three, planeAt_four, planeAt_five, colP, colR, labAt]
      first | done | rfl
    · rw [View.read_writes_cons_unit_of_mem _ _ _ _ _ _ (ix2 r l) rfl (by intro a; fin_cases a <;> simp)]
      unfold_payloads
      pointwise
      simp only [maxN, sumN, labN, planeAt_zero, planeAt_one, planeAt_two, planeAt_three, planeAt_four, planeAt_five, colP, colR, labAt]
      first | done | rfl

set_option maxHeartbeats 4000000 in
/-- The second head's running rows take the tile in. -/
theorem tookB_R (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : ¬ condInit i) (hc2 : k0_cond2 i = 1#1) (hc3 : ¬ k0_cond3 i = 1#1) (hc4 : ¬ k0_cond4 i = 1#1)
    (x0 : Vec Ideal S1024x3584 .fp8e4m3) (x1 : Vec Ideal S1024x128 .f32) (x2 : Vec Ideal S1024x3584 .fp8e4m3) (x3 : Vec Ideal S1024x128 .f32) (x4 : Vec Ideal S1024x16 .bf16) (x5 : Vec Ideal S1024x128 .i32) (x6 : Vec Ideal S768x3584 .fp8e4m3) (x7 : Vec Ideal S1x768 .f32) (x8 : Vec Ideal S16x768 .bf16) (x9 : Vec Ideal S1024x768 .f32) (x10 : Vec Ideal S1024x128 .f32) (x11 : Vec Ideal S1024x1 .f32) (x12 : Vec Ideal S1024x128 .f32) (x13 : Vec Ideal S1024x128 .f32) (x14 : Vec Ideal S1024x128 .f32) (x15 : Vec Ideal S1024x128 .f32) (x16 : Vec Ideal S1024x128 .f32) (x17 : Vec Ideal S1024x128 .f32) :
    Took 6 (colR x2 x3 x6 x7) (labAt i x5) x15 x16 x17 ((runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.1) ((runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.2.1) ((runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.2.2) := by
  unfold runB; dsimp only; sl_unfold_words
  simp (disch := decide) only [Cert.Reads.readAt_unread, Cert.Reads.readCov_hit, Cert.Reads.readCov_miss]
  constructor
  all_goals
    intro R l
    rcases row_cases R with ⟨r, rfl⟩ | ⟨r, rfl⟩
    · rw [View.read_writes_cons_unit_of_not_mem _ _ _ _ _ _ rfl (0 : Fin 2) (Or.inl r.isLt),
        View.read_writes_cons_unit_of_mem _ _ _ _ _ _ (ix2 r l) rfl (by intro a; fin_cases a <;> simp)]
      unfold_payloads
      pointwise
      simp only [maxN, sumN, labN, planeAt_zero, planeAt_one, planeAt_two, planeAt_three, planeAt_four, planeAt_five, colP, colR, labAt]
      first | done | rfl
    · rw [View.read_writes_cons_unit_of_mem _ _ _ _ _ _ (ix2 r l) rfl (by intro a; fin_cases a <;> simp)]
      unfold_payloads
      pointwise
      simp only [maxN, sumN, labN, planeAt_zero, planeAt_one, planeAt_two, planeAt_three, planeAt_four, planeAt_five, colP, colR, labAt]
      first | done | rfl

set_option maxHeartbeats 4000000 in
/-- The logits buffer holds the tile's logits. -/
theorem logitsB (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : ¬ condInit i) (hc2 : k0_cond2 i = 1#1) (hc3 : ¬ k0_cond3 i = 1#1) (hc4 : ¬ k0_cond4 i = 1#1)
    (x0 : Vec Ideal S1024x3584 .fp8e4m3) (x1 : Vec Ideal S1024x128 .f32) (x2 : Vec Ideal S1024x3584 .fp8e4m3) (x3 : Vec Ideal S1024x128 .f32) (x4 : Vec Ideal S1024x16 .bf16) (x5 : Vec Ideal S1024x128 .i32) (x6 : Vec Ideal S768x3584 .fp8e4m3) (x7 : Vec Ideal S1x768 .f32) (x8 : Vec Ideal S16x768 .bf16) (x9 : Vec Ideal S1024x768 .f32) (x10 : Vec Ideal S1024x128 .f32) (x11 : Vec Ideal S1024x1 .f32) (x12 : Vec Ideal S1024x128 .f32) (x13 : Vec Ideal S1024x128 .f32) (x14 : Vec Ideal S1024x128 .f32) (x15 : Vec Ideal S1024x128 .f32) (x16 : Vec Ideal S1024x128 .f32) (x17 : Vec Ideal S1024x128 .f32) (R : Fin 1024) (l : Fin 128) (n : Fin 6) :
    (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.1 (ix2 R ⟨n.val * 128 + l.val, by omega⟩) = colP x0 x1 x4 x6 x7 x8 R l ⟨n.val * 128 + l.val, by omega⟩ := by
  unfold runB; dsimp only; sl_unfold_words
  simp (disch := decide) only [Cert.Reads.readAt_unread, Cert.Reads.readCov_hit, Cert.Reads.readCov_miss]
  rcases row_cases R with ⟨r, rfl⟩ | ⟨r, rfl⟩
  all_goals
    fin_cases n
    all_goals
      simp only [Nat.zero_mul, Nat.one_mul, Nat.reduceMul, Nat.zero_add]
      repeat
        first
          | refine (View.read_writes_cons_unit_of_not_mem _ _ _ _ _ _ rfl (0 : Fin 2) (Or.inl r.isLt)).trans ?_
          | refine (View.read_writes_cons_unit_of_not_mem _ _ _ _ _ _ rfl (1 : Fin 2) (Or.inl ?_)).trans ?_
            · simp <;> omega
          | fail
      refine (View.read_writes_cons_unit_of_mem _ _ _ _ _ _ (ix2 r l) rfl ?_).trans ?_
      · intro a; fin_cases a <;> simp
      unfold_payloads
      pointwise
      simp only [colP]

end Cert.FwdIdeal.Head

end
-- ==== Proof.FwdIdeal.ValsC.lean ====
/- What the body leaves, case C, over the reals: the tile's logits and the running rows, and the two row results. -/
module

public import proofs.«01_k».proof.Proof.FwdIdeal.RunC
public import proofs.«01_k».proof.Proof.FwdIdeal.Tile
public import proofs.«01_k».proof.Proof.Reads

@[expose] public section

set_option maxRecDepth 16384

noncomputable section

namespace Cert.FwdIdeal.Head

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
/-- The first head's running rows take the tile in. -/
theorem tookC_P (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : ¬ condInit i) (hc2 : ¬ k0_cond2 i = 1#1) (hc3 : k0_cond3 i = 1#1) (hc4 : k0_cond4 i = 1#1)
    (x0 : Vec Ideal S1024x3584 .fp8e4m3) (x1 : Vec Ideal S1024x128 .f32) (x2 : Vec Ideal S1024x3584 .fp8e4m3) (x3 : Vec Ideal S1024x128 .f32) (x4 : Vec Ideal S1024x16 .bf16) (x5 : Vec Ideal S1024x128 .i32) (x6 : Vec Ideal S768x3584 .fp8e4m3) (x7 : Vec Ideal S1x768 .f32) (x8 : Vec Ideal S16x768 .bf16) (x9 : Vec Ideal S1024x768 .f32) (x10 : Vec Ideal S1024x128 .f32) (x11 : Vec Ideal S1024x1 .f32) (x12 : Vec Ideal S1024x128 .f32) (x13 : Vec Ideal S1024x128 .f32) (x14 : Vec Ideal S1024x128 .f32) (x15 : Vec Ideal S1024x128 .f32) (x16 : Vec Ideal S1024x128 .f32) (x17 : Vec Ideal S1024x128 .f32) :
    Took 3 (colP x0 x1 x4 x6 x7 x8) (labAt i x5) x12 x13 x14 ((runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.1) ((runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.1) ((runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.2.1) := by
  unfold runC; dsimp only; sl_unfold_words
  simp (disch := decide) only [Cert.Reads.readAt_unread, Cert.Reads.readCov_hit, Cert.Reads.readCov_miss]
  constructor
  all_goals
    intro R l
    rcases row_cases R with ⟨r, rfl⟩ | ⟨r, rfl⟩
    · rw [View.read_writes_cons_unit_of_not_mem _ _ _ _ _ _ rfl (0 : Fin 2) (Or.inl r.isLt),
        View.read_writes_cons_unit_of_mem _ _ _ _ _ _ (ix2 r l) rfl (by intro a; fin_cases a <;> simp)]
      unfold_payloads
      pointwise
      simp only [maxN, sumN, labN, planeAt_zero, planeAt_one, planeAt_two, planeAt_three, planeAt_four, planeAt_five, colP, colR, labAt]
      first | done | rfl
    · rw [View.read_writes_cons_unit_of_mem _ _ _ _ _ _ (ix2 r l) rfl (by intro a; fin_cases a <;> simp)]
      unfold_payloads
      pointwise
      simp only [maxN, sumN, labN, planeAt_zero, planeAt_one, planeAt_two, planeAt_three, planeAt_four, planeAt_five, colP, colR, labAt]
      first | done | rfl

set_option maxHeartbeats 4000000 in
/-- The second head's running rows take the tile in. -/
theorem tookC_R (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : ¬ condInit i) (hc2 : ¬ k0_cond2 i = 1#1) (hc3 : k0_cond3 i = 1#1) (hc4 : k0_cond4 i = 1#1)
    (x0 : Vec Ideal S1024x3584 .fp8e4m3) (x1 : Vec Ideal S1024x128 .f32) (x2 : Vec Ideal S1024x3584 .fp8e4m3) (x3 : Vec Ideal S1024x128 .f32) (x4 : Vec Ideal S1024x16 .bf16) (x5 : Vec Ideal S1024x128 .i32) (x6 : Vec Ideal S768x3584 .fp8e4m3) (x7 : Vec Ideal S1x768 .f32) (x8 : Vec Ideal S16x768 .bf16) (x9 : Vec Ideal S1024x768 .f32) (x10 : Vec Ideal S1024x128 .f32) (x11 : Vec Ideal S1024x1 .f32) (x12 : Vec Ideal S1024x128 .f32) (x13 : Vec Ideal S1024x128 .f32) (x14 : Vec Ideal S1024x128 .f32) (x15 : Vec Ideal S1024x128 .f32) (x16 : Vec Ideal S1024x128 .f32) (x17 : Vec Ideal S1024x128 .f32) :
    Took 3 (colR x2 x3 x6 x7) (labAt i x5) x15 x16 x17 ((runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.2.2.1) ((runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.2.2.2.1) ((runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.2.2.2.2) := by
  unfold runC; dsimp only; sl_unfold_words
  simp (disch := decide) only [Cert.Reads.readAt_unread, Cert.Reads.readCov_hit, Cert.Reads.readCov_miss]
  constructor
  all_goals
    intro R l
    rcases row_cases R with ⟨r, rfl⟩ | ⟨r, rfl⟩
    · rw [View.read_writes_cons_unit_of_not_mem _ _ _ _ _ _ rfl (0 : Fin 2) (Or.inl r.isLt),
        View.read_writes_cons_unit_of_mem _ _ _ _ _ _ (ix2 r l) rfl (by intro a; fin_cases a <;> simp)]
      unfold_payloads
      pointwise
      simp only [maxN, sumN, labN, planeAt_zero, planeAt_one, planeAt_two, planeAt_three, planeAt_four, planeAt_five, colP, colR, labAt]
      first | done | rfl
    · rw [View.read_writes_cons_unit_of_mem _ _ _ _ _ _ (ix2 r l) rfl (by intro a; fin_cases a <;> simp)]
      unfold_payloads
      pointwise
      simp only [maxN, sumN, labN, planeAt_zero, planeAt_one, planeAt_two, planeAt_three, planeAt_four, planeAt_five, colP, colR, labAt]
      first | done | rfl

set_option maxHeartbeats 4000000 in
/-- The logits buffer holds the tile's logits. -/
theorem logitsC (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : ¬ condInit i) (hc2 : ¬ k0_cond2 i = 1#1) (hc3 : k0_cond3 i = 1#1) (hc4 : k0_cond4 i = 1#1)
    (x0 : Vec Ideal S1024x3584 .fp8e4m3) (x1 : Vec Ideal S1024x128 .f32) (x2 : Vec Ideal S1024x3584 .fp8e4m3) (x3 : Vec Ideal S1024x128 .f32) (x4 : Vec Ideal S1024x16 .bf16) (x5 : Vec Ideal S1024x128 .i32) (x6 : Vec Ideal S768x3584 .fp8e4m3) (x7 : Vec Ideal S1x768 .f32) (x8 : Vec Ideal S16x768 .bf16) (x9 : Vec Ideal S1024x768 .f32) (x10 : Vec Ideal S1024x128 .f32) (x11 : Vec Ideal S1024x1 .f32) (x12 : Vec Ideal S1024x128 .f32) (x13 : Vec Ideal S1024x128 .f32) (x14 : Vec Ideal S1024x128 .f32) (x15 : Vec Ideal S1024x128 .f32) (x16 : Vec Ideal S1024x128 .f32) (x17 : Vec Ideal S1024x128 .f32) (R : Fin 1024) (l : Fin 128) (n : Fin 3) :
    (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.1 (ix2 R ⟨n.val * 128 + l.val, by omega⟩) = colP x0 x1 x4 x6 x7 x8 R l ⟨n.val * 128 + l.val, by omega⟩ := by
  unfold runC; dsimp only; sl_unfold_words
  simp (disch := decide) only [Cert.Reads.readAt_unread, Cert.Reads.readCov_hit, Cert.Reads.readCov_miss]
  rcases row_cases R with ⟨r, rfl⟩ | ⟨r, rfl⟩
  all_goals
    fin_cases n
    all_goals
      simp only [Nat.zero_mul, Nat.one_mul, Nat.reduceMul, Nat.zero_add]
      repeat
        first
          | refine (View.read_writes_cons_unit_of_not_mem _ _ _ _ _ _ rfl (0 : Fin 2) (Or.inl r.isLt)).trans ?_
          | refine (View.read_writes_cons_unit_of_not_mem _ _ _ _ _ _ rfl (1 : Fin 2) (Or.inl ?_)).trans ?_
            · simp <;> omega
          | fail
      refine (View.read_writes_cons_unit_of_mem _ _ _ _ _ _ (ix2 r l) rfl ?_).trans ?_
      · intro a; fin_cases a <;> simp
      unfold_payloads
      pointwise
      simp only [colP]

set_option maxHeartbeats 4000000 in
/-- The first row result: the logsumexp of the running rows. -/
theorem lseC (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : ¬ condInit i) (hc2 : ¬ k0_cond2 i = 1#1) (hc3 : k0_cond3 i = 1#1) (hc4 : k0_cond4 i = 1#1)
    (x0 : Vec Ideal S1024x3584 .fp8e4m3) (x1 : Vec Ideal S1024x128 .f32) (x2 : Vec Ideal S1024x3584 .fp8e4m3) (x3 : Vec Ideal S1024x128 .f32) (x4 : Vec Ideal S1024x16 .bf16) (x5 : Vec Ideal S1024x128 .i32) (x6 : Vec Ideal S768x3584 .fp8e4m3) (x7 : Vec Ideal S1x768 .f32) (x8 : Vec Ideal S16x768 .bf16) (x9 : Vec Ideal S1024x768 .f32) (x10 : Vec Ideal S1024x128 .f32) (x11 : Vec Ideal S1024x1 .f32) (x12 : Vec Ideal S1024x128 .f32) (x13 : Vec Ideal S1024x128 .f32) (x14 : Vec Ideal S1024x128 .f32) (x15 : Vec Ideal S1024x128 .f32) (x16 : Vec Ideal S1024x128 .f32) (x17 : Vec Ideal S1024x128 .f32) (R : Fin 1024) (l : Fin 128) :
    (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.1 (ix2 R l) = lseOf (fun q => (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.1 (ix2 R q)) (fun q => (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.1 (ix2 R q)) := by
  unfold runC; dsimp only; sl_unfold_words
  simp (disch := decide) only [Cert.Reads.readAt_unread, Cert.Reads.readCov_hit, Cert.Reads.readCov_miss]
  refine (View.read_writes_cons_unit_of_mem _ _ _ _ _ _ (ix2 R l) rfl ?_).trans ?_
  · intro a; fin_cases a <;> simp
  rw [Cert.Reads.readCov_all arg14.view (harg14.unread x12) _ _ (by decide) (View.cover_of_tiled_head _ _ _ rfl),
    Cert.Reads.readCov_all arg15.view (harg15.unread x13) _ _ (by decide) (View.cover_of_tiled_head _ _ _ rfl)]
  generalize View.read (Elt Ideal) arg14.view _ = M
  generalize View.read (Elt Ideal) arg15.view _ = S
  unfold_payloads
  pointwise
  simp only [lseOf]

set_option maxHeartbeats 4000000 in
/-- The second row result: the difference of the two heads' log probabilities of the label. -/
theorem lrC (c : Dev nD) (i : grid0.Coords) (arg2 : Memref sig .tc .vmem S1024x3584 .fp8e4m3) (harg2 : arg2.IsWhole) (arg3 : Memref sig .tc .vmem S1024x128 .f32) (harg3 : arg3.IsWhole) (arg4 : Memref sig .tc .vmem S1024x3584 .fp8e4m3) (harg4 : arg4.IsWhole) (arg5 : Memref sig .tc .vmem S1024x128 .f32) (harg5 : arg5.IsWhole) (arg6 : Memref sig .tc .vmem S1024x16 .bf16) (harg6 : arg6.IsWhole) (arg7 : Memref sig .tc .vmem S1024x128 .i32) (harg7 : arg7.IsWhole) (arg8 : Memref sig .tc .vmem S768x3584 .fp8e4m3) (harg8 : arg8.IsWhole) (arg9 : Memref sig .tc .vmem S1x768 .f32) (harg9 : arg9.IsWhole) (arg10 : Memref sig .tc .vmem S16x768 .bf16) (harg10 : arg10.IsWhole) (arg11 : Memref sig .tc .vmem S1024x768 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (hc1 : ¬ condInit i) (hc2 : ¬ k0_cond2 i = 1#1) (hc3 : k0_cond3 i = 1#1) (hc4 : k0_cond4 i = 1#1)
    (x0 : Vec Ideal S1024x3584 .fp8e4m3) (x1 : Vec Ideal S1024x128 .f32) (x2 : Vec Ideal S1024x3584 .fp8e4m3) (x3 : Vec Ideal S1024x128 .f32) (x4 : Vec Ideal S1024x16 .bf16) (x5 : Vec Ideal S1024x128 .i32) (x6 : Vec Ideal S768x3584 .fp8e4m3) (x7 : Vec Ideal S1x768 .f32) (x8 : Vec Ideal S16x768 .bf16) (x9 : Vec Ideal S1024x768 .f32) (x10 : Vec Ideal S1024x128 .f32) (x11 : Vec Ideal S1024x1 .f32) (x12 : Vec Ideal S1024x128 .f32) (x13 : Vec Ideal S1024x128 .f32) (x14 : Vec Ideal S1024x128 .f32) (x15 : Vec Ideal S1024x128 .f32) (x16 : Vec Ideal S1024x128 .f32) (x17 : Vec Ideal S1024x128 .f32) (R : Fin 1024) :
    (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.1 (ix2 R 0) = ((∑ q : Fin 128, (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.2.1 (ix2 R q)) - lseOf (fun q => (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.1 (ix2 R q)) (fun q => (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.1 (ix2 R q)))
      - ((∑ q : Fin 128, (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.2.2.2.2 (ix2 R q)) - lseOf (fun q => (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.2.2.1 (ix2 R q)) (fun q => (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11 x12 x13 x14 x15 x16 x17).1.2.2.2.2.2.2.2.1 (ix2 R q))) := by
  unfold runC; dsimp only; sl_unfold_words
  simp (disch := decide) only [Cert.Reads.readAt_unread, Cert.Reads.readCov_hit, Cert.Reads.readCov_miss]
  refine (View.read_writes_cons_unit_of_mem _ _ _ _ _ _ (ix2 R 0) rfl ?_).trans ?_
  · intro a; fin_cases a <;> simp
  rw [Cert.Reads.readCov_all arg14.view (harg14.unread x12) _ _ (by decide) (View.cover_of_tiled_head _ _ _ rfl),
    Cert.Reads.readCov_all arg15.view (harg15.unread x13) _ _ (by decide) (View.cover_of_tiled_head _ _ _ rfl),
    Cert.Reads.readCov_all arg16.view (harg16.unread x14) _ _ (by decide) (View.cover_of_tiled_head _ _ _ rfl),
    Cert.Reads.readCov_all arg17.view (harg17.unread x15) _ _ (by decide) (View.cover_of_tiled_head _ _ _ rfl),
    Cert.Reads.readCov_all arg18.view (harg18.unread x16) _ _ (by decide) (View.cover_of_tiled_head _ _ _ rfl),
    Cert.Reads.readCov_all arg19.view (harg19.unread x17) _ _ (by decide) (View.cover_of_tiled_head _ _ _ rfl)]
  generalize View.read (Elt Ideal) arg14.view _ = M
  generalize View.read (Elt Ideal) arg15.view _ = S
  generalize View.read (Elt Ideal) arg16.view _ = B
  generalize View.read (Elt Ideal) arg17.view _ = M'
  generalize View.read (Elt Ideal) arg18.view _ = S'
  generalize View.read (Elt Ideal) arg19.view _ = B'
  unfold_payloads
  pointwise
  simp only [lseOf]

end Cert.FwdIdeal.Head

end
-- ==== Proof.FwdIdeal.Step.lean ====
/- The relation the forward head's body keeps at every point: the scratch holds the running rows of the columns seen so far, the results' buffers hold the logits, the logsumexp and the log-ratio. -/
module

public import proofs.«01_k».proof.Proof.FwdIdeal.Frame
public import proofs.«01_k».proof.Proof.FwdIdeal.Blocks
public import proofs.«01_k».proof.Proof.FwdIdeal.Spec
public import proofs.«01_k».proof.Proof.FwdIdeal.ValsA
public import proofs.«01_k».proof.Proof.FwdIdeal.ValsB
public import proofs.«01_k».proof.Proof.FwdIdeal.ValsC

@[expose] public section

set_option maxRecDepth 16384

noncomputable section

namespace Cert.FwdIdeal.Head

open Cert.FwdIdeal Cert.FwdIdeal.Gen
open Idealize.ShloMosaic Idealize.ShloMosaic.TcCoe
open Idealize.ShloMosaic.Pipeline (Dat Cfg Window BodyObligation cellOf)

variable (m : (ℓ : Loc nD τ sig) → Buf (Elt Ideal) ℓ) (c : Dev nD)

/-- The first head's logits of the arguments. -/
def fP : Fin 8192 → Fin 38016 → EReal :=
  logitP (m ((c.tc : Thread nD τ).loc main_arg0)) (m ((c.tc : Thread nD τ).loc main_arg1)) (m ((c.tc : Thread nD τ).loc main_arg4))
    (m ((c.tc : Thread nD τ).loc main_arg6)) (m ((c.tc : Thread nD τ).loc main_arg7)) (m ((c.tc : Thread nD τ).loc main_arg8))
/-- The second head's logits of the arguments. -/
def fR : Fin 8192 → Fin 38016 → EReal :=
  logitR (m ((c.tc : Thread nD τ).loc main_arg2)) (m ((c.tc : Thread nD τ).loc main_arg3))
    (m ((c.tc : Thread nD τ).loc main_arg6)) (m ((c.tc : Thread nD τ).loc main_arg7))
/-- The labels. -/
def labT (T : Fin 8192) : BitVec 32 := m ((c.tc : Thread nD τ).loc main_arg5) (ix1 T)

/-! ## A tile's logits are the arguments' -/

theorem colP_eq (t : Fin cfg0.N) (Y : (w : Fin cfg0.W) → (cfg0.win w).block.Idx → Elt Ideal (cfg0.win w).elt)
    (hY : ∀ w : Fin cfg0.W, w.val < 9 → InBlk m c w t (Y w)) (R : Fin 1024) (l : Fin 128) (v : Fin 768) (hv : 768 * (t.val % 50) + v.val < 38016) :
    colP (Y 0) (Y 1) (Y 4) (Y 6) (Y 7) (Y 8) R l v = fP m c (rowAt t R) ⟨768 * (t.val % 50) + v.val, hv⟩ := by
  obtain ⟨d0, e0⟩ := hY 0 (by decide)
  obtain ⟨d1, e1⟩ := hY 1 (by decide)
  obtain ⟨d4, e4⟩ := hY 4 (by decide)
  obtain ⟨d6, e6⟩ := hY 6 (by decide)
  obtain ⟨d7, e7⟩ := hY 7 (by decide)
  obtain ⟨d8, e8⟩ := hY 8 (by decide)
  rw [e0, e1, e4, e6, e7, e8]
  unfold colP fP logitP
  refine congrArg₂ (· + ·) (congrArg₂ (· * ·) (congrArg₂ (· * ·) (Finset.sum_congr rfl fun k _ => congrArg₂ (· * ·) (in0 m c t d0 R k) (in6 m c t d6 k v hv))
    (in1 m c t d1 R l)) (in7 m c t d7 v hv)) (congrArg₂ (· * ·) rfl (Finset.sum_congr rfl fun k _ => congrArg₂ (· * ·) (in4 m c t d4 R k) (in8 m c t d8 k v hv)))

theorem colR_eq (t : Fin cfg0.N) (Y : (w : Fin cfg0.W) → (cfg0.win w).block.Idx → Elt Ideal (cfg0.win w).elt)
    (hY : ∀ w : Fin cfg0.W, w.val < 9 → InBlk m c w t (Y w)) (R : Fin 1024) (l : Fin 128) (v : Fin 768) (hv : 768 * (t.val % 50) + v.val < 38016) :
    colR (Y 2) (Y 3) (Y 6) (Y 7) R l v = fR m c (rowAt t R) ⟨768 * (t.val % 50) + v.val, hv⟩ := by
  obtain ⟨d2, e2⟩ := hY 2 (by decide)
  obtain ⟨d3, e3⟩ := hY 3 (by decide)
  obtain ⟨d6, e6⟩ := hY 6 (by decide)
  obtain ⟨d7, e7⟩ := hY 7 (by decide)
  rw [e2, e3, e6, e7]
  unfold colR fR logitR
  exact congrArg₂ (· * ·) (congrArg₂ (· * ·) (Finset.sum_congr rfl fun k _ => congrArg₂ (· * ·) (in2 m c t d2 R k) (in6 m c t d6 k v hv))
    (in3 m c t d3 R l)) (in7 m c t d7 v hv)

theorem labAt_eq (t : Fin cfg0.N) (Y : (w : Fin cfg0.W) → (cfg0.win w).block.Idx → Elt Ideal (cfg0.win w).elt)
    (hY : ∀ w : Fin cfg0.W, w.val < 9 → InBlk m c w t (Y w)) (R : Fin 1024) (l : Fin 128) :
    labAt (grid0.coords t) (Y 5) R l = IntOp.subi (labT m c (rowAt t R)) (Scalar.muli (BitVec.ofNat 32 (t.val % 50)) 768#32) := by
  obtain ⟨d5, e5⟩ := hY 5 (by decide)
  rw [e5]
  unfold labAt labT
  rw [coord1]
  exact congrArg₂ IntOp.subi (in5 m c t d5 R l) rfl

/-- A plane of a tile is a plane of the vocabulary. -/
theorem plane_eq (j n : ℕ) (hn : n ≤ 6) (hj : (6 * j + n) * 128 ≤ 38016) (f : Fin 768 → EReal) (g : Fin 38016 → EReal) (l : Fin 128)
    (h : ∀ (v : Fin 768) (hv : 768 * j + v.val < 38016), f v = g ⟨768 * j + v.val, hv⟩) (c : ℕ) (hc : c < n) :
    planeAt f l c = planeRow g l (6 * j + c) := by
  unfold planeAt planeRow
  have hl := l.isLt
  rw [dif_pos (by omega), dif_pos (by omega), h _ (by show 768 * j + (c * 128 + l.val) < 38016; omega)]
  exact congrArg g (Fin.ext (by show 768 * j + (c * 128 + l.val) = (6 * j + c) * 128 + l.val; ring))

/-- A tile taken into the first head's running rows. -/
theorem stepP (t : Fin cfg0.N) (Y : (w : Fin cfg0.W) → (cfg0.win w).block.Idx → Elt Ideal (cfg0.win w).elt)
    (hY : ∀ w : Fin cfg0.W, w.val < 9 → InBlk m c w t (Y w)) (n : ℕ) (hn : n ≤ 6) (hj : (6 * (t.val % 50) + n) * 128 ≤ 38016)
    {a s b a' s' b' : FVec Ideal S1024x128 .f32}
    (h : Rows (6 * (t.val % 50)) (fun R => fP m c (rowAt t R)) (fun R => labT m c (rowAt t R)) a s b)
    (ht : Took n (colP (Y 0) (Y 1) (Y 4) (Y 6) (Y 7) (Y 8)) (labAt (grid0.coords t) (Y 5)) a s b a' s' b') :
    Rows (6 * (t.val % 50) + n) (fun R => fP m c (rowAt t R)) (fun R => labT m c (rowAt t R)) a' s' b' :=
  h.took ht (fun R l k hk => plane_eq _ n hn hj _ _ l (fun v hv => colP_eq m c t Y hY R l v hv) k hk) (labAt_eq m c t Y hY)

/-- A tile taken into the second head's running rows. -/
theorem stepR (t : Fin cfg0.N) (Y : (w : Fin cfg0.W) → (cfg0.win w).block.Idx → Elt Ideal (cfg0.win w).elt)
    (hY : ∀ w : Fin cfg0.W, w.val < 9 → InBlk m c w t (Y w)) (n : ℕ) (hn : n ≤ 6) (hj : (6 * (t.val % 50) + n) * 128 ≤ 38016)
    {a s b a' s' b' : FVec Ideal S1024x128 .f32}
    (h : Rows (6 * (t.val % 50)) (fun R => fR m c (rowAt t R)) (fun R => labT m c (rowAt t R)) a s b)
    (ht : Took n (colR (Y 2) (Y 3) (Y 6) (Y 7)) (labAt (grid0.coords t) (Y 5)) a s b a' s' b') :
    Rows (6 * (t.val % 50) + n) (fun R => fR m c (rowAt t R)) (fun R => labT m c (rowAt t R)) a' s' b' :=
  h.took ht (fun R l k hk => plane_eq _ n hn hj _ _ l (fun v hv => colR_eq m c t Y hY R l v hv) k hk) (labAt_eq m c t Y hY)

/-! ## The relation -/

/-- Row `R` of the row block of point `n`. -/
def rowOf (n : ℕ) (h : n < 400) (R : Fin 1024) : Fin 8192 := ⟨1024 * (n / 50) + R.val, by omega⟩

theorem rowOf_succ (t : Fin cfg0.N) (h : t.val + 1 < 400) (h' : (t.val + 1) % 50 ≠ 0) : rowOf (t.val + 1) h = rowAt t :=
  funext fun R => Fin.ext (by show 1024 * ((t.val + 1) / 50) + R.val = 1024 * (t.val / 50) + R.val; omega)

/-- Between the points of a row block the scratch holds the running rows of the tiles seen; the results hold the logits, the logsumexp, the log-ratio. -/
def headRel : Rel Ideal where
  inv n s := ∀ h : n < 400, n % 50 ≠ 0 →
    Rows (6 * (n % 50)) (fun R => fP m c (rowOf n h R)) (fun R => labT m c (rowOf n h R)) s.1 s.2.1 s.2.2.1
      ∧ Rows (6 * (n % 50)) (fun R => fR m c (rowOf n h R)) (fun R => labT m c (rowOf n h R)) s.2.2.2.1 s.2.2.2.2.1 s.2.2.2.2.2
  o9 t X := ∀ (R : Fin 1024) (v : Fin 768) (hv : 768 * (t.val % 50) + v.val < 38016), X (ix2 R v) = fP m c (rowAt t R) ⟨768 * (t.val % 50) + v.val, hv⟩
  o10 t X := ∀ (R : Fin 1024) (l : Fin 128), X (ix2 R l) = lseRow 38016 (fP m c (rowAt t R))
  o11 t X := ∀ R : Fin 1024, X (ix2 R (0 : Fin 1)) = ratio (fP m c (rowAt t R)) (fR m c (rowAt t R)) (labT m c (rowAt t R))

/-- The relation after a point, from the rows a tile leaves. -/
theorem inv_succ (t : Fin cfg0.N) (s : Scr Ideal) (hP : t.val % 50 < 49 → Rows (6 * (t.val % 50) + 6) (fun R => fP m c (rowAt t R)) (fun R => labT m c (rowAt t R)) s.1 s.2.1 s.2.2.1)
    (hR : t.val % 50 < 49 → Rows (6 * (t.val % 50) + 6) (fun R => fR m c (rowAt t R)) (fun R => labT m c (rowAt t R)) s.2.2.2.1 s.2.2.2.2.1 s.2.2.2.2.2) :
    (headRel m c).inv (t.val + 1) s := by
  intro h h'
  have e : 6 * ((t.val + 1) % 50) = 6 * (t.val % 50) + 6 := by omega
  rw [e, rowOf_succ t h h']
  exact ⟨hP (by omega), hR (by omega)⟩

/-- A block's column is a lane of one of its planes. -/
theorem col_cases (n : ℕ) (v : Fin 768) (h : v.val < n * 128) : ∃ (p : Fin n) (l : Fin 128), v.val = p.val * 128 + l.val :=
  ⟨⟨v.val / 128, by omega⟩, ⟨v.val % 128, by omega⟩, by show v.val = v.val / 128 * 128 + v.val % 128; omega⟩

/-- The relation is kept at every point. -/
theorem headStep : Step m (headRel m c) c where
  zero s := fun _ h => absurd rfl h
  first t h Y hY s _ := by
    have hz : 6 * (t.val % 50) = 0 := by omega
    refine ⟨fun R v hv => ?_, inv_succ m c t _ (fun _ => ?_) (fun _ => ?_)⟩
    · obtain ⟨p, l, hp⟩ := col_cases 6 v v.isLt
      obtain ⟨v, hv'⟩ := v
      dsimp only at hp hv ⊢
      subst hp
      exact (logitsA c (grid0.coords t) ..).trans (colP_eq m c t Y hY R l _ hv)
    · exact stepP m c t Y hY 6 le_rfl (by omega) (by rw [hz]; exact rows_zero _ _) (tookA_P c (grid0.coords t) ..)
    · exact stepR m c t Y hY 6 le_rfl (by omega) (by rw [hz]; exact rows_zero _ _) (tookA_R c (grid0.coords t) ..)
  later t h Y hY s hs := by
    have hr := hs (lt_of_lt_of_eq t.isLt N_0) h.1
    refine ⟨fun R v hv => ?_, inv_succ m c t _ (fun _ => ?_) (fun _ => ?_)⟩
    · obtain ⟨p, l, hp⟩ := col_cases 6 v v.isLt
      obtain ⟨v, hv'⟩ := v
      dsimp only at hp hv ⊢
      subst hp
      exact (logitsB c (grid0.coords t) ..).trans (colP_eq m c t Y hY R l _ hv)
    · exact stepP m c t Y hY 6 le_rfl (by omega) hr.1 (tookB_P c (grid0.coords t) ..)
    · exact stepR m c t Y hY 6 le_rfl (by omega) hr.2 (tookB_R c (grid0.coords t) ..)
  last t h Y hY s hs := by
    have hr := hs (lt_of_lt_of_eq t.isLt N_0) (by omega)
    have h297 : 6 * (t.val % 50) + 3 = 297 := by omega
    have hP : Rows 297 (fun R => fP m c (rowAt t R)) (fun R => labT m c (rowAt t R)) (atC c t h Y s).1.2.2.2.1 (atC c t h Y s).1.2.2.2.2.1
        (atC c t h Y s).1.2.2.2.2.2.1 := by
      rw [← h297]
      exact stepP m c t Y hY 3 (by omega) (by omega) hr.1 (tookC_P c (grid0.coords t) ..)
    have hR : Rows 297 (fun R => fR m c (rowAt t R)) (fun R => labT m c (rowAt t R)) (atC c t h Y s).1.2.2.2.2.2.2.1 (atC c t h Y s).1.2.2.2.2.2.2.2.1
        (atC c t h Y s).1.2.2.2.2.2.2.2.2 := by
      rw [← h297]
      exact stepR m c t Y hY 3 (by omega) (by omega) hr.2 (tookC_R c (grid0.coords t) ..)
    refine ⟨fun R v hv => ?_, fun R l => ?_, fun R => ?_, inv_succ m c t _ (fun h' => absurd h' (by omega)) (fun h' => absurd h' (by omega))⟩
    · obtain ⟨p, l, hp⟩ := col_cases 3 v (by omega)
      obtain ⟨v, hv'⟩ := v
      dsimp only at hp hv ⊢
      subst hp
      exact (logitsC c (grid0.coords t) ..).trans (colP_eq m c t Y hY R l _ hv)
    · exact (lseC c (grid0.coords t) ..).trans (hP.lse R)
    · exact (lrC c (grid0.coords t) ..).trans (congrArg₂ (· - ·) (congrArg₂ (· - ·) (hP.labSum R) (hP.lse R)) (congrArg₂ (· - ·) (hR.labSum R) (hR.lse R)))

end Cert.FwdIdeal.Head
end
-- ==== Proof.FwdIdeal.Final.lean ====
/- The forward head's results after the run, in the terms of the arguments. -/
module

public import proofs.«01_k».proof.Proof.FwdIdeal.Step
public import Idealize.ShloMosaic.Lib.Pipeline.ArrRel

@[expose] public section

set_option maxRecDepth 16384

noncomputable section

namespace Cert.FwdIdeal.Head

open Cert.FwdIdeal Cert.FwdIdeal.Gen
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ) (ρ : Dev nD → PrngReg) (c : Dev nD)

/-- The whole array of logits. -/
def outP : S8192x38016.Idx → EReal := fun i => fP m c (i 0) (i 1)
/-- The logsumexp of every token, in all 128 lanes. -/
def outL : S8192x128.Idx → EReal := fun i => lseRow 38016 (fP m c (i 0))
/-- The log-ratio of every token. -/
def outR : S8192x1.Idx → EReal := fun i => ratio (fP m c (i 0)) (fR m c (i 0)) (labT m c (i 0))

variable (after : (w' : Fin cfg0.W) → Fin cfg0.N → (cfg0.win w').block.Idx → Elt Ideal (cfg0.win w').elt)
  (hL : ∀ (w : Fin cfg0.W) (u : Fin cfg0.N), (cfg0.win w).flush u = true → (rdat m (headRel m c) c).Leaves w u (after w u))
include hL

theorem final9 : ((rdat m (headRel m c) c).withAfter after).arrAt 9 cfg0.N = outP m c := by
  refine Dat.arrAt_eq_of_covers _ 9 _ (by decide +kernel) fun t hf y => ?_
  obtain ⟨Y, -, h9⟩ := hL 9 t hf
  have h0 : win0_9.index t 0 = t.val / 50 := tr0 t
  have h1 : win0_9.index t 1 = t.val % 50 := tr1 t
  have hy0 : (y 0).val < 1024 := (y 0).isLt.trans_le ((cfg0.win 9).xsize_le _ 0)
  have hy1 : (y 1).val < min 768 (38016 - 768 * (t.val % 50)) := lt_of_lt_of_eq (y 1).isLt (ext_of t)
  have e := (show (headRel m c).o9 t (after 9 t) from h9) ⟨(y 0).val, hy0⟩ ⟨(y 1).val, by omega⟩ (by show 768 * (t.val % 50) + (y 1).val < 38016; omega)
  refine Eq.trans (congrArg (after 9 t) (?_ : _ = ix2 (⟨(y 0).val, hy0⟩ : Fin 1024) (⟨(y 1).val, by omega⟩ : Fin 768))) (e.trans (congrArg₂ (fP m c) (Fin.ext ?_) (Fin.ext ?_)))
  · funext a
    fin_cases a <;> rfl
  · blk_simp [h0]
    show 1024 * (t.val / 50) + (y 0).val = t.val / 50 * 1024 + (y 0).val
    omega
  · blk_simp [h1]
    show 768 * (t.val % 50) + (y 1).val = t.val % 50 * 768 + (y 1).val
    omega

theorem final10 : ((rdat m (headRel m c) c).withAfter after).arrAt 10 cfg0.N = outL m c := by
  refine Dat.arrAt_eq_of_covers _ 10 _ (by decide +kernel) fun t hf y => ?_
  obtain ⟨Y, -, h10⟩ := hL 10 t hf
  have h0 : win0_10.index t 0 = t.val / 50 := tr0 t
  have hy0 : (y 0).val < 1024 := (y 0).isLt
  have hy1 : (y 1).val < 128 := (y 1).isLt
  have e := (show t.val % 50 = 49 → (headRel m c).o10 t (after 10 t) from h10) ((flush0_10 t).mp hf) ⟨(y 0).val, hy0⟩ ⟨(y 1).val, hy1⟩
  refine Eq.trans (congrArg (after 10 t) (?_ : _ = ix2 (⟨(y 0).val, hy0⟩ : Fin 1024) (⟨(y 1).val, hy1⟩ : Fin 128))) (e.trans (congrArg (fun T => lseRow 38016 (fP m c T)) (Fin.ext ?_)))
  · funext a
    fin_cases a <;> rfl
  · blk_simp [h0]
    show 1024 * (t.val / 50) + (y 0).val = t.val / 50 * 1024 + (y 0).val
    omega

theorem final11 : ((rdat m (headRel m c) c).withAfter after).arrAt 11 cfg0.N = outR m c := by
  refine Dat.arrAt_eq_of_covers _ 11 _ (by decide +kernel) fun t hf y => ?_
  obtain ⟨Y, -, h11⟩ := hL 11 t hf
  have h0 : win0_11.index t 0 = t.val / 50 := tr0 t
  have hy0 : (y 0).val < 1024 := (y 0).isLt
  have hy1 : (y 1).val < 1 := (y 1).isLt
  have e := (show t.val % 50 = 49 → (headRel m c).o11 t (after 11 t) from h11) ((flush0_11 t).mp hf) ⟨(y 0).val, hy0⟩
  refine Eq.trans (congrArg (after 11 t) (?_ : _ = ix2 (⟨(y 0).val, hy0⟩ : Fin 1024) (0 : Fin 1))) (e.trans (congrArg (fun T => ratio (fP m c T) (fR m c T) (labT m c T)) (Fin.ext ?_)))
  · funext a
    fin_cases a
    · rfl
    · exact Fin.ext (by show (y 1).val = 0; omega)
  · blk_simp [h0]
    show 1024 * (t.val / 50) + (y 0).val = t.val / 50 * 1024 + (y 0).val
    omega

omit hL
/-- The run: every execution ends with the three results as computed plainly from the arguments, and the arguments as they were. -/
theorem run_values : θ_run defs (onTc (τ := τ) (main (F := Ideal))) ⟨m, fun _ => 0, ρ⟩ (fun r => ∀ c : Dev nD,
      r.2.mem ((c.tc : Thread nD τ).loc main_v8_0) = outP m c
      ∧ r.2.mem ((c.tc : Thread nD τ).loc main_v8_1) = outL m c
      ∧ r.2.mem ((c.tc : Thread nD τ).loc main_v8_2) = outR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have hc : ∀ c : Dev nD, c = 0 := fun c => Subsingleton.elim _ _
  refine (θ_run defs _ _).mono (fun r h c => ?_) (run_main m ρ (headRel m 0) fun c => by obtain rfl := hc c; exact headStep m 0)
  obtain rfl := hc c
  obtain ⟨after, hL, hA⟩ := Pipeline.RDat.FramePost.exists_exact h.1 0
  exact ⟨(hA 9).trans (final9 m 0 after hL), (hA 10).trans (final10 m 0 after hL), (hA 11).trans (final11 m 0 after hL), args_of m (headRel m 0) r h.1 0⟩

end Cert.FwdIdeal.Head
end
-- ==== Proof.RefFwdIdeal.Pays.lean ====
/- The reference's operations read at an index. -/
module

public import proofs.«01_k».proof.Proof.Gen.RefFwdIdeal.Skeleton
public import proofs.«01_k».proof.Proof.FwdIdeal.Spec
public import Idealize.ShloMosaic.Lib.Pointwise

@[expose] public section

set_option maxRecDepth 16384

noncomputable section

namespace Cert.RefFwdIdeal.Vals

open Cert.RefFwdIdeal Cert.RefFwdIdeal.Gen
open Idealize.ShloMosaic Idealize.ShloMosaic.TcCoe Idealize.ShloMosaic.Tactic
open Cert.FwdIdeal.Head (lseRow labRow logitP logitR ratio)

/-! ## The body's operations at an index -/

/-- The first head's logits: product of the codes, times both scales, plus twice the low-rank term. -/
theorem pay3_at (v0 : Vec Ideal S8192x16 .bf16) (v1 : Vec Ideal S38016x16 .bf16) (v3 : Vec Ideal S8192x3584 .fp8e4m3) (v4 : Vec Ideal S38016x3584 .fp8e4m3)
    (v6 : Vec Ideal S8192x1 .f32) (v10 : Vec Ideal S1x38016 .f32) (T : Fin 8192) (v : Fin 38016) :
    k0_pay3 (F := Ideal) v0 v1 v3 v4 v6 v10 (ix2 T v) = (∑ k : Fin 3584, v3 (ix2 T k) * v4 (ix2 v k)) * v6 (ix2 T (0 : Fin 1)) * v10 (ix2 (0 : Fin 1) v)
      + Ideal.ofBits .f32 0x40000000#32 * ∑ k : Fin 16, v0 (ix2 T k) * v1 (ix2 v k) := by
  unfold k0_pay3
  pointwise

/-- The largest of a row. -/
theorem max_at (g : FVec Ideal S8192x38016 .f32) (T : Fin 8192) :
    multiReduction (F := Ideal) .maximumf [1] S8192 g 0xFF800000#32 reduces_S8192x38016_S8192 (.inl rfl) rfl (ix1 T)
      = Finset.univ.fold max (Ideal.ofBits .f32 0xFF800000#32) fun v : Fin 38016 => g (ix2 T v) := by
  refine (multiReduction_maximumf_eq_fold g _ _ _ _ (ix1 T)).trans ?_
  rw [Shape.Reduces.fold_fiber_r2_a1]
  generalize (Finset.univ : Finset (Fin 38016)) = U
  rfl

/-- A row's logsumexp against a value `M` of the row, as the operations compute it. -/
theorem lse_of (g : FVec Ideal S8192x38016 .f32) (M : FVec Ideal S8192 .f32) (T : Fin 8192) :
    addf (shapeCast S8192x1 M shapeCasts_S8192_S8192x1)
      (log (shapeCast S8192x1 (multiReduction (F := Ideal) .add [1] S8192 (exp (subf g (broadcastTo S8192x38016
        (shapeCast S8192x1 M shapeCasts_S8192_S8192x1)
        broadcasts_S8192x1_S8192x38016))) 0x00000000#32 reduces_S8192x38016_S8192 (.inl rfl) rfl) shapeCasts_S8192_S8192x1)) (ix2 T (0 : Fin 1))
      = M (ix1 T) + Ideal.log (∑ v : Fin 38016, Ideal.exp (g (ix2 T v) - M (ix1 T))) := by
  pointwise

/-- The row's logsumexp. -/
theorem lse_at (g : FVec Ideal S8192x38016 .f32) (M : FVec Ideal S8192 .f32) (T : Fin 8192)
    (hM : M (ix1 T) = Finset.univ.fold max (Ideal.ofBits .f32 0xFF800000#32) fun v : Fin 38016 => g (ix2 T v)) :
    addf (shapeCast S8192x1 M shapeCasts_S8192_S8192x1)
      (log (shapeCast S8192x1 (multiReduction (F := Ideal) .add [1] S8192 (exp (subf g (broadcastTo S8192x38016
        (shapeCast S8192x1 M shapeCasts_S8192_S8192x1)
        broadcasts_S8192x1_S8192x38016))) 0x00000000#32 reduces_S8192x38016_S8192 (.inl rfl) rfl) shapeCasts_S8192_S8192x1)) (ix2 T (0 : Fin 1))
      = lseRow 38016 (fun v => g (ix2 T v)) := by
  rw [lse_of, hM, lseRow]

/-- A row's label value, as the operations compute it. -/
theorem lab_at (g : FVec Ideal S8192x38016 .f32) (lab : Vec Ideal S8192x1 .i32) (T : Fin 8192) :
    shapeCast S8192x1 (multiReduction (F := Ideal) .add [1] S8192 (select (cmpi .eq (iota .tc S8192x38016 32 [1] iota_S8192x38016_d1_w32)
        (broadcastTo S8192x38016 (shapeCast S8192x1 lab shapeCasts_S8192x1_S8192x1) broadcasts_S8192x1_S8192x38016)) g
        (broadcast S8192x38016 (Scalar.ofBits .f32 0x00000000#32))) 0x00000000#32 reduces_S8192x38016_S8192 (.inl rfl) rfl) shapeCasts_S8192_S8192x1 (ix2 T (0 : Fin 1))
      = labRow (fun v => g (ix2 T v)) (lab (ix2 T (0 : Fin 1))) := by
  unfold labRow
  pointwise

/-- The logsumexp payload is the logsumexp of the row of logits. -/
theorem pay4_at (v0 : Vec Ideal S8192x16 .bf16) (v1 : Vec Ideal S38016x16 .bf16) (v3 : Vec Ideal S8192x3584 .fp8e4m3) (v4 : Vec Ideal S38016x3584 .fp8e4m3)
    (v6 : Vec Ideal S8192x1 .f32) (v10 : Vec Ideal S1x38016 .f32) (T : Fin 8192) :
    k0_pay4 (F := Ideal) v0 v1 v3 v4 v6 v10 (ix2 T (0 : Fin 1)) = lseRow 38016 (fun v => k0_pay3 (F := Ideal) v0 v1 v3 v4 v6 v10 (ix2 T v)) :=
  lse_at (k0_pay3 (F := Ideal) v0 v1 v3 v4 v6 v10) _ T (max_at _ T)

/-- The logsumexp written out has the same value in every lane. -/
theorem pay1_at (g : FVec Ideal S8192x1 .f32) (T : Fin 8192) (l : Fin 128) : k0_pay1 (F := Ideal) g (ix2 T l) = g (ix2 T (0 : Fin 1)) := by
  unfold k0_pay1
  pointwise

/-- The first head's log-probability of the label: its logit minus the row's logsumexp. -/
theorem pay5_at (v0 : Vec Ideal S8192x16 .bf16) (v1 : Vec Ideal S38016x16 .bf16) (v3 : Vec Ideal S8192x3584 .fp8e4m3) (v4 : Vec Ideal S38016x3584 .fp8e4m3)
    (v6 : Vec Ideal S8192x1 .f32) (v10 : Vec Ideal S1x38016 .f32) (v27 : Vec Ideal S8192x1 .i32) (T : Fin 8192) :
    k0_pay5 (F := Ideal) v0 v1 v3 v4 v6 v10 v27 (ix2 T (0 : Fin 1)) = labRow (fun v => k0_pay3 (F := Ideal) v0 v1 v3 v4 v6 v10 (ix2 T v)) (v27 (ix2 T (0 : Fin 1)))
      - k0_pay4 (F := Ideal) v0 v1 v3 v4 v6 v10 (ix2 T (0 : Fin 1)) := by
  show _ - _ = _
  exact congrArg₂ (· - ·) (lab_at (k0_pay3 (F := Ideal) v0 v1 v3 v4 v6 v10) v27 T) rfl

/-- The second head's logits, as the operations compute them. -/
def prodR (v36 : Vec Ideal S8192x3584 .fp8e4m3) (v37 : Vec Ideal S38016x3584 .fp8e4m3) (v39 : Vec Ideal S8192x1 .f32) (v43 : Vec Ideal S1x38016 .f32) :
    FVec Ideal S8192x38016 .f32 :=
  mulf (mulf (matmul dot_S8192x3584_S38016x3584_S8192x38016_1_1_0_0_n_n (φ₁ := .fp8e4m3) (φ₂ := .fp8e4m3) none v36 v37 (constant S8192x38016 .f32 0x00000000#32))
      (broadcastTo S8192x38016 (shapeCast S8192x1 v39 shapeCasts_S8192x1_S8192x1) broadcasts_S8192x1_S8192x38016))
    (broadcastTo S8192x38016 (shapeCast S1x38016 v43 shapeCasts_S1x38016_S1x38016) broadcasts_S1x38016_S8192x38016)

/-- The second head's logits at an index. -/
theorem prodR_at (v36 : Vec Ideal S8192x3584 .fp8e4m3) (v37 : Vec Ideal S38016x3584 .fp8e4m3) (v39 : Vec Ideal S8192x1 .f32) (v43 : Vec Ideal S1x38016 .f32)
    (T : Fin 8192) (v : Fin 38016) : prodR v36 v37 v39 v43 (ix2 T v)
      = (∑ k : Fin 3584, v36 (ix2 T k) * v37 (ix2 v k)) * v39 (ix2 T (0 : Fin 1)) * v43 (ix2 (0 : Fin 1) v) := by
  unfold prodR
  pointwise

/-- The log-ratio: the first head's log-probability minus the second's. -/
theorem pay2_at (v35 : FVec Ideal S8192x1 .f32) (v36 : Vec Ideal S8192x3584 .fp8e4m3) (v37 : Vec Ideal S38016x3584 .fp8e4m3) (v39 : Vec Ideal S8192x1 .f32)
    (v43 : Vec Ideal S1x38016 .f32) (v57 : Vec Ideal S8192x1 .i32) (T : Fin 8192) :
    k0_pay2 (F := Ideal) v35 v36 v37 v39 v43 v57 (ix2 T (0 : Fin 1)) = v35 (ix2 T (0 : Fin 1))
      - (labRow (fun v => prodR v36 v37 v39 v43 (ix2 T v)) (v57 (ix2 T (0 : Fin 1))) - lseRow 38016 (fun v => prodR v36 v37 v39 v43 (ix2 T v))) := by
  show v35 (ix2 T (0 : Fin 1)) - (_ - _) = _
  rw [← lab_at (prodR v36 v37 v39 v43) v57 T, ← lse_at (prodR v36 v37 v39 v43) _ T (max_at _ T)]
  rfl

end Cert.RefFwdIdeal.Vals
end
-- ==== Proof.RefFwdIdeal.Vals.lean ====
/- The reference's results in the terms of its arguments. -/
module

public import proofs.«01_k».proof.Proof.Gen.RefFwdIdeal.Value
public import proofs.«01_k».proof.Proof.RefFwdIdeal.Pays
public import Idealize.ShloMosaic.Lib.Pointwise
public import Idealize.ShloMosaic.Lib.Pipeline.ValueKit

@[expose] public section

set_option maxRecDepth 16384

noncomputable section

namespace Cert.RefFwdIdeal.Vals

open Cert.RefFwdIdeal Cert.RefFwdIdeal.Gen
open Idealize.ShloMosaic Idealize.ShloMosaic.TcCoe Idealize.ShloMosaic.Tactic
open Idealize.ShloMosaic.Pipeline (Dat Cfg Window BodyObligation cellOf)
open Cert.FwdIdeal.Head (lseRow labRow logitP logitR ratio)

/-! ## The call's inputs at an index -/

variable (m : (ℓ : Loc nD τ sig) → Buf (Elt Ideal) ℓ) (ρ : Dev nD → PrngReg) (c : Dev nD)

/-- Reshaping keeps the first head's token scales. -/
theorem host1 (T : Fin 8192) : V m c main_v0 (ix2 T (0 : Fin 1)) = m ((c.tc : Thread nD τ).loc main_arg1) (ix1 T) := by
  entry_read
  pointwise

/-- Reshaping keeps the second head's token scales. -/
theorem host3 (T : Fin 8192) : V m c main_v1 (ix2 T (0 : Fin 1)) = m ((c.tc : Thread nD τ).loc main_arg3) (ix1 T) := by
  entry_read
  pointwise

/-- Reshaping keeps the labels. -/
theorem host5 (T : Fin 8192) : V m c main_v2 (ix2 T (0 : Fin 1)) = m ((c.tc : Thread nD τ).loc main_arg5) (ix1 T) := by
  entry_read
  pointwise

/-- Reshaping keeps the weight scales. -/
theorem host7 (v : Fin 38016) : V m c main_v3 (ix2 (0 : Fin 1) v) = m ((c.tc : Thread nD τ).loc main_arg7) (ix1 v) := by
  entry_read
  pointwise

/-- Window 0 stages the first head's codes. -/
theorem in0 (t : Fin cfg0.N) (i : Fin 8192) (k : Fin 3584) : iblk m c 0 t (ix2 i k) = m ((c.tc : Thread nD τ).loc main_arg0) (ix2 i k) := by
  refine Eq.trans (congrArg (V m c main_arg0) (?_ : _ = ix2 i k)) (congrFun (V_main_arg0 m c) _)
  funext a
  have h0 : win0_0.index t 0 = 0 := rfl
  have h1 : win0_0.index t 1 = 0 := rfl
  fin_cases a <;> (refine Fin.ext ?_; blk_simp [h0, h1])

/-- Window 2 stages the second head's codes. -/
theorem in2 (t : Fin cfg0.N) (i : Fin 8192) (k : Fin 3584) : iblk m c 2 t (ix2 i k) = m ((c.tc : Thread nD τ).loc main_arg2) (ix2 i k) := by
  refine Eq.trans (congrArg (V m c main_arg2) (?_ : _ = ix2 i k)) (congrFun (V_main_arg2 m c) _)
  funext a
  have h0 : win0_2.index t 0 = 0 := rfl
  have h1 : win0_2.index t 1 = 0 := rfl
  fin_cases a <;> (refine Fin.ext ?_; blk_simp [h0, h1])

/-- Window 4 stages the low-rank activations. -/
theorem in4 (t : Fin cfg0.N) (i : Fin 8192) (k : Fin 16) : iblk m c 4 t (ix2 i k) = m ((c.tc : Thread nD τ).loc main_arg4) (ix2 i k) := by
  refine Eq.trans (congrArg (V m c main_arg4) (?_ : _ = ix2 i k)) (congrFun (V_main_arg4 m c) _)
  funext a
  have h0 : win0_4.index t 0 = 0 := rfl
  have h1 : win0_4.index t 1 = 0 := rfl
  fin_cases a <;> (refine Fin.ext ?_; blk_simp [h0, h1])

/-- Window 6 stages the weight codes. -/
theorem in6 (t : Fin cfg0.N) (i : Fin 38016) (k : Fin 3584) : iblk m c 6 t (ix2 i k) = m ((c.tc : Thread nD τ).loc main_arg6) (ix2 i k) := by
  refine Eq.trans (congrArg (V m c main_arg6) (?_ : _ = ix2 i k)) (congrFun (V_main_arg6 m c) _)
  funext a
  have h0 : win0_6.index t 0 = 0 := rfl
  have h1 : win0_6.index t 1 = 0 := rfl
  fin_cases a <;> (refine Fin.ext ?_; blk_simp [h0, h1])

/-- Window 8 stages the low-rank weights. -/
theorem in8 (t : Fin cfg0.N) (i : Fin 38016) (k : Fin 16) : iblk m c 8 t (ix2 i k) = m ((c.tc : Thread nD τ).loc main_arg8) (ix2 i k) := by
  refine Eq.trans (congrArg (V m c main_arg8) (?_ : _ = ix2 i k)) (congrFun (V_main_arg8 m c) _)
  funext a
  have h0 : win0_8.index t 0 = 0 := rfl
  have h1 : win0_8.index t 1 = 0 := rfl
  fin_cases a <;> (refine Fin.ext ?_; blk_simp [h0, h1])

/-- Window 1 stages the first head's token scales. -/
theorem in1 (t : Fin cfg0.N) (T : Fin 8192) : iblk m c 1 t (ix2 T (0 : Fin 1)) = m ((c.tc : Thread nD τ).loc main_arg1) (ix1 T) := by
  refine Eq.trans (congrArg (V m c main_v0) (?_ : _ = ix2 T (0 : Fin 1))) (host1 m c T)
  funext a
  have h0 : win0_1.index t 0 = 0 := rfl
  have h1 : win0_1.index t 1 = 0 := rfl
  fin_cases a <;> (refine Fin.ext ?_; blk_simp [h0, h1])

/-- Window 3 stages the second head's token scales. -/
theorem in3 (t : Fin cfg0.N) (T : Fin 8192) : iblk m c 3 t (ix2 T (0 : Fin 1)) = m ((c.tc : Thread nD τ).loc main_arg3) (ix1 T) := by
  refine Eq.trans (congrArg (V m c main_v1) (?_ : _ = ix2 T (0 : Fin 1))) (host3 m c T)
  funext a
  have h0 : win0_3.index t 0 = 0 := rfl
  have h1 : win0_3.index t 1 = 0 := rfl
  fin_cases a <;> (refine Fin.ext ?_; blk_simp [h0, h1])

/-- Window 5 stages the labels. -/
theorem in5 (t : Fin cfg0.N) (T : Fin 8192) : iblk m c 5 t (ix2 T (0 : Fin 1)) = m ((c.tc : Thread nD τ).loc main_arg5) (ix1 T) := by
  refine Eq.trans (congrArg (V m c main_v2) (?_ : _ = ix2 T (0 : Fin 1))) (host5 m c T)
  funext a
  have h0 : win0_5.index t 0 = 0 := rfl
  have h1 : win0_5.index t 1 = 0 := rfl
  fin_cases a <;> (refine Fin.ext ?_; blk_simp [h0, h1])

/-- Window 7 stages the weight scales. -/
theorem in7 (t : Fin cfg0.N) (v : Fin 38016) : iblk m c 7 t (ix2 (0 : Fin 1) v) = m ((c.tc : Thread nD τ).loc main_arg7) (ix1 v) := by
  refine Eq.trans (congrArg (V m c main_v3) (?_ : _ = ix2 (0 : Fin 1) v)) (host7 m c v)
  funext a
  have h0 : win0_7.index t 0 = 0 := rfl
  have h1 : win0_7.index t 1 = 0 := rfl
  fin_cases a <;> (refine Fin.ext ?_; blk_simp [h0, h1])

/-! ## The results -/

/-- The first head's logits of token `T`. -/
def gP (T : Fin 8192) (v : Fin 38016) : EReal :=
  logitP (m ((c.tc : Thread nD τ).loc main_arg0)) (m ((c.tc : Thread nD τ).loc main_arg1)) (m ((c.tc : Thread nD τ).loc main_arg4))
    (m ((c.tc : Thread nD τ).loc main_arg6)) (m ((c.tc : Thread nD τ).loc main_arg7)) (m ((c.tc : Thread nD τ).loc main_arg8)) T v

/-- The second head's logits of token `T`. -/
def gR (T : Fin 8192) (v : Fin 38016) : EReal :=
  logitR (m ((c.tc : Thread nD τ).loc main_arg2)) (m ((c.tc : Thread nD τ).loc main_arg3))
    (m ((c.tc : Thread nD τ).loc main_arg6)) (m ((c.tc : Thread nD τ).loc main_arg7)) T v

/-- The label of token `T`. -/
def lab (T : Fin 8192) : BitVec 32 := m ((c.tc : Thread nD τ).loc main_arg5) (ix1 T)

/-- The first head's logits, as the body computes them from the staged arrays. -/
theorem logits_at (t : Fin cfg0.N) (T : Fin 8192) (v : Fin 38016) :
    k0_pay3 (F := Ideal) (iblk m c 4 t) (iblk m c 8 t) (iblk m c 0 t) (iblk m c 6 t) (iblk m c 1 t) (iblk m c 7 t) (ix2 T v) = gP m c T v := by
  refine (pay3_at (iblk m c 4 t) (iblk m c 8 t) (iblk m c 0 t) (iblk m c 6 t) (iblk m c 1 t) (iblk m c 7 t) T v).trans ?_
  refine congrArg₂ (· + ·) (congrArg₂ (· * ·) (congrArg₂ (· * ·) (Finset.sum_congr rfl fun k _ => ?_) (in1 m c t T)) (in7 m c t v))
    (congrArg (Ideal.ofBits .f32 0x40000000#32 * ·) (Finset.sum_congr rfl fun k _ => ?_))
  · exact congrArg₂ (· * ·) (in0 m c t T k) (in6 m c t v k)
  · exact congrArg₂ (· * ·) (in4 m c t T k) (in8 m c t v k)

/-- The second head's. -/
theorem logitsR_at (t : Fin cfg0.N) (T : Fin 8192) (v : Fin 38016) :
    prodR (iblk m c 2 t) (iblk m c 6 t) (iblk m c 3 t) (iblk m c 7 t) (ix2 T v) = gR m c T v := by
  refine (prodR_at (iblk m c 2 t) (iblk m c 6 t) (iblk m c 3 t) (iblk m c 7 t) T v).trans ?_
  refine congrArg₂ (· * ·) (congrArg₂ (· * ·) (Finset.sum_congr rfl fun k _ => ?_) (in3 m c t T)) (in7 m c t v)
  exact congrArg₂ (· * ·) (in2 m c t T k) (in6 m c t v k)

/-- The logsumexp, as the body computes it. -/
theorem lse_row_at (t : Fin cfg0.N) (T : Fin 8192) :
    k0_pay4 (F := Ideal) (iblk m c 4 t) (iblk m c 8 t) (iblk m c 0 t) (iblk m c 6 t) (iblk m c 1 t) (iblk m c 7 t) (ix2 T (0 : Fin 1)) = lseRow 38016 (gP m c T) :=
  (pay4_at (iblk m c 4 t) (iblk m c 8 t) (iblk m c 0 t) (iblk m c 6 t) (iblk m c 1 t) (iblk m c 7 t) T).trans
    (congrArg (lseRow 38016) (funext fun v => logits_at m c t T v))

/-- The log-ratio, as the body computes it. -/
theorem ratio_at (t : Fin cfg0.N) (T : Fin 8192) :
    k0_pay2 (F := Ideal) (k0_pay5 (F := Ideal) (iblk m c 4 t) (iblk m c 8 t) (iblk m c 0 t) (iblk m c 6 t) (iblk m c 1 t) (iblk m c 7 t) (iblk m c 5 t))
      (iblk m c 2 t) (iblk m c 6 t) (iblk m c 3 t) (iblk m c 7 t) (iblk m c 5 t) (ix2 T (0 : Fin 1)) = ratio (gP m c T) (gR m c T) (lab m c T) := by
  refine (pay2_at _ (iblk m c 2 t) (iblk m c 6 t) (iblk m c 3 t) (iblk m c 7 t) (iblk m c 5 t) T).trans ?_
  have hR : (fun v => prodR (iblk m c 2 t) (iblk m c 6 t) (iblk m c 3 t) (iblk m c 7 t) (ix2 T v)) = gR m c T := funext fun v => logitsR_at m c t T v
  have hP : (fun v => k0_pay3 (F := Ideal) (iblk m c 4 t) (iblk m c 8 t) (iblk m c 0 t) (iblk m c 6 t) (iblk m c 1 t) (iblk m c 7 t) (ix2 T v)) = gP m c T :=
    funext fun v => logits_at m c t T v
  refine congrArg₂ (· - ·) ((pay5_at (iblk m c 4 t) (iblk m c 8 t) (iblk m c 0 t) (iblk m c 6 t) (iblk m c 1 t) (iblk m c 7 t) (iblk m c 5 t) T).trans
    (congrArg₂ (· - ·) (congrArg₂ labRow hP (in5 m c t T)) (lse_row_at m c t T))) ?_
  exact congrArg₂ (· - ·) (congrArg₂ labRow hR (in5 m c t T)) (congrArg (lseRow 38016) hR)

/-- What the one grid point leaves in each result's window. -/
theorem after9 (t : Fin cfg0.N) : (dats m 0 c).after 9 t = k0_pay3 (F := Ideal) (iblk m c 4 t) (iblk m c 8 t) (iblk m c 0 t) (iblk m c 6 t) (iblk m c 1 t) (iblk m c 7 t) := by
  rw [after0_9]
  frame_out

theorem after10 (t : Fin cfg0.N) : (dats m 0 c).after 10 t = k0_pay1 (F := Ideal) (k0_pay4 (F := Ideal) (iblk m c 4 t) (iblk m c 8 t) (iblk m c 0 t) (iblk m c 6 t) (iblk m c 1 t) (iblk m c 7 t)) := by
  rw [after0_10]
  frame_out

theorem after11 (t : Fin cfg0.N) : (dats m 0 c).after 11 t = k0_pay2 (F := Ideal) (k0_pay5 (F := Ideal) (iblk m c 4 t) (iblk m c 8 t) (iblk m c 0 t) (iblk m c 6 t) (iblk m c 1 t) (iblk m c 7 t) (iblk m c 5 t))
    (iblk m c 2 t) (iblk m c 6 t) (iblk m c 3 t) (iblk m c 7 t) (iblk m c 5 t) := by
  rw [after0_11]
  frame_out

/-- The array of logits after the run. -/
theorem final9 : (dats m 0 c).arrAt 9 cfg0.N = fun i : S8192x38016.Idx => gP m c (i 0) (i 1) := by
  refine Dat.arrAt_eq_of_covers _ 9 _ (by decide +kernel) fun t hf y => ?_
  have hy0 : (y 0).val < 8192 := (y 0).isLt
  have hy1 : (y 1).val < 38016 := (y 1).isLt
  have h0 : win0_9.index t 0 = 0 := rfl
  have h1 : win0_9.index t 1 = 0 := rfl
  refine (congrFun (after9 m c t) _).trans ((congrArg _ (?_ : _ = ix2 (⟨(y 0).val, hy0⟩ : Fin 8192) (⟨(y 1).val, hy1⟩ : Fin 38016))).trans
    ((logits_at m c t ⟨(y 0).val, hy0⟩ ⟨(y 1).val, hy1⟩).trans (congrArg₂ (gP m c) (Fin.ext ?_) (Fin.ext ?_))))
  · funext a
    fin_cases a
    · rfl
    · exact rfl
  · blk_simp [h0]
  · blk_simp [h1]

/-- The array of logsumexps after the run. -/
theorem final10 : (dats m 0 c).arrAt 10 cfg0.N = fun i : S8192x128.Idx => lseRow 38016 (gP m c (i 0)) := by
  refine Dat.arrAt_eq_of_covers _ 10 _ (by decide +kernel) fun t hf y => ?_
  have hy0 : (y 0).val < 8192 := (y 0).isLt
  have hy1 : (y 1).val < 128 := (y 1).isLt
  have h0 : win0_10.index t 0 = 0 := rfl
  have h1 : win0_10.index t 1 = 0 := rfl
  refine (congrFun (after10 m c t) _).trans ((congrArg _ (?_ : _ = ix2 (⟨(y 0).val, hy0⟩ : Fin 8192) (⟨(y 1).val, hy1⟩ : Fin 128))).trans
    ((pay1_at _ ⟨(y 0).val, hy0⟩ ⟨(y 1).val, hy1⟩).trans ((lse_row_at m c t ⟨(y 0).val, hy0⟩).trans (congrArg (fun T => lseRow 38016 (gP m c T)) (Fin.ext ?_)))))
  · funext a
    fin_cases a
    · rfl
    · exact rfl
  · blk_simp [h0]

/-- The array of log-ratios after the run. -/
theorem final11 : (dats m 0 c).arrAt 11 cfg0.N = fun i : S8192x1.Idx => ratio (gP m c (i 0)) (gR m c (i 0)) (lab m c (i 0)) := by
  refine Dat.arrAt_eq_of_covers _ 11 _ (by decide +kernel) fun t hf y => ?_
  have hy0 : (y 0).val < 8192 := (y 0).isLt
  have hy1 : (y 1).val < 1 := (y 1).isLt
  have h0 : win0_11.index t 0 = 0 := rfl
  have h1 : win0_11.index t 1 = 0 := rfl
  refine (congrFun (after11 m c t) _).trans ((congrArg _ (?_ : _ = ix2 (⟨(y 0).val, hy0⟩ : Fin 8192) (0 : Fin 1))).trans
    ((ratio_at m c t ⟨(y 0).val, hy0⟩).trans (congrArg (fun T => ratio (gP m c T) (gR m c T) (lab m c T)) (Fin.ext ?_))))
  · funext a
    fin_cases a
    · rfl
    · exact Fin.ext (by show (y 1).val = 0; omega)
  · blk_simp [h0]

/-- The run: the three results in the terms of the arguments, and the arguments as they were. -/
theorem run_values : θ_run defs (onTc (τ := τ) (main (F := Ideal))) ⟨m, fun _ => 0, ρ⟩ (fun r => ∀ c : Dev nD,
      r.2.mem ((c.tc : Thread nD τ).loc main_v4_0) = (fun i : S8192x38016.Idx => gP m c (i 0) (i 1))
      ∧ r.2.mem ((c.tc : Thread nD τ).loc main_v4_1) = (fun i : S8192x128.Idx => lseRow 38016 (gP m c (i 0)))
      ∧ r.2.mem ((c.tc : Thread nD τ).loc main_v4_2) = (fun i : S8192x1.Idx => ratio (gP m c (i 0)) (gR m c (i 0)) (lab m c (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (final9 m c), (h c).2.1.trans (final10 m c), (h c).2.2.1.trans (final11 m c), (h c).2.2.2⟩)
    (Cert.RefFwdIdeal.Value.run_blocks m ρ)

end Cert.RefFwdIdeal.Vals
end
-- ==== Proof.lean ====
/- The claims: both programs' frames, the idealization, and the equality of kernel and reference over the extended reals. -/
module

public import proofs.«01_k».proof.Proof.Gen.RefFwdIdeal.Value
public import proofs.«01_k».proof.Defs
public import proofs.«01_k».proof.Proof.Fwd.Frame
public import proofs.«01_k».proof.Proof.FwdIdeal.Frame
public import proofs.«01_k».proof.Proof.FwdIdeal.Final
public import proofs.«01_k».proof.Proof.RefFwdIdeal.Vals
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.RefFwdIdeal
public import proofs.«01_k».proof.Proof.Gen.RefFwdIdeal.Skeleton
public import proofs.«01_k».proof.Proof.Gen.RefFwdIdeal.Launch
public import proofs.«01_k».proof.Proof.Gen.RefFwdIdeal.Points
public import proofs.«01_k».proof.Proof.Gen.RefFwdIdeal.Frame
public import Idealize.ShloMosaic.Adequacy
public import Idealize.ShloMosaic.Init

@[expose] public section

noncomputable section

namespace Cert.Proof

open Idealize.ShloMosaic Idealize.SL.Sem Cert.Fwd

/-- Kernel and reference end with the same three results: logits, their logsumexp, and the log-ratio of the label. -/
theorem algebraic : algebraic_FwdIdeal_RefFwdIdeal (hFwdIdeal := Cert.FwdIdeal.Gen.facts) (hRefFwdIdeal := Cert.RefFwdIdeal.Gen.facts) := by
  intro m g m' g' _ e
  have eP : ∀ c T, Cert.RefFwdIdeal.Vals.gP m' c T = Cert.FwdIdeal.Head.fP m c T := fun c T => by
    obtain ⟨e0, e1, -, -, e4, -, e6, e7, e8⟩ := e c
    unfold Cert.RefFwdIdeal.Vals.gP
    rw [e0, e1, e4, e6, e7, e8]
    rfl
  have eR : ∀ c T, Cert.RefFwdIdeal.Vals.gR m' c T = Cert.FwdIdeal.Head.fR m c T := fun c T => by
    obtain ⟨-, -, e2, e3, -, -, e6, e7, -⟩ := e c
    unfold Cert.RefFwdIdeal.Vals.gR
    rw [e2, e3, e6, e7]
    rfl
  have eL : ∀ c T, Cert.RefFwdIdeal.Vals.lab m' c T = Cert.FwdIdeal.Head.labT m c T := fun c T => by
    obtain ⟨-, -, -, -, -, e5, -⟩ := e c
    unfold Cert.RefFwdIdeal.Vals.lab
    rw [e5]
    rfl
  refine ⟨fun c => Cert.FwdIdeal.Head.outP m c, fun c => Cert.FwdIdeal.Head.outL m c, fun c => Cert.FwdIdeal.Head.outR m c,
    Cert.FwdIdeal.Head.run_values m g, ?_⟩
  refine (θ_run _ _ _).mono (fun r h c => ⟨(h c).1.trans ?_, (h c).2.1.trans ?_, (h c).2.2.1.trans ?_, (h c).2.2.2⟩)
    (Cert.RefFwdIdeal.Vals.run_values m' g')
  · exact funext fun i => congrFun (eP c (i 0)) (i 1)
  · exact funext fun i => congrArg (Cert.FwdIdeal.Head.lseRow 38016) (eP c (i 0))
  · funext i
    show Cert.FwdIdeal.Head.ratio _ _ _ = Cert.FwdIdeal.Head.ratio _ _ _
    rw [eP c (i 0), eR c (i 0), eL c (i 0)]

theorem claim : Cert.Claim :=
  ⟨Cert.Fwd.Gen.facts, Cert.FwdIdeal.Gen.facts, Cert.RefFwdIdeal.Gen.facts, fun m ρ _ => Cert.Fwd.Head.frame m ρ,
    fun m ρ _ => Cert.FwdIdeal.Head.frame m ρ, fun m ρ _ => Cert.RefFwdIdeal.Gen.frame m ρ, trivial, algebraic⟩

end Cert.Proof

end
